-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S2x4096x256 : Shape := ⟨3, ![2, 4096, 256]⟩
abbrev S3x1024x512 : Shape := ⟨3, ![3, 1024, 512]⟩
abbrev S3 : Shape := ⟨1, ![3]⟩
abbrev S_ : Shape := ⟨0, ![]⟩
abbrev S5 : Shape := ⟨1, ![5]⟩
abbrev S1 : Shape := ⟨1, ![1]⟩
abbrev S1x4096x256 : Shape := ⟨3, ![1, 4096, 256]⟩
abbrev S4096x256 : Shape := ⟨2, ![4096, 256]⟩
abbrev S1024x512 : Shape := ⟨2, ![1024, 512]⟩
abbrev S1024x256 : Shape := ⟨2, ![1024, 256]⟩
abbrev S1x1024x256 : Shape := ⟨3, ![1, 1024, 256]⟩
abbrev S1x1024x512 : Shape := ⟨3, ![1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S1024x4096, .bf16⟩
  | .hbm, ⟨3, _⟩ => ⟨S4096x512, .bf16⟩
  | .hbm, ⟨4, _⟩ => ⟨S4096x512, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .f32⟩
  | .local _ .vmem, ⟨3, _⟩ => ⟨S2x4096x256, .bf16⟩
  | .local _ .vmem, ⟨4, _⟩ => ⟨S2x4096x256, .bf16⟩
  | .local _ .vmem, ⟨5, _⟩ => ⟨S3x1024x512, .bf16⟩
  | .local _ .vmem, ⟨6, _⟩ => ⟨S3x1024x512, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 3 25 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_26 : BitVec 32 := 1#32
  let v41 : BitVec 32 := Scalar.muli v35 c1_i32_26
  let v42 : BitVec 32 := Scalar.addi c0_i32_27 v41
  v42.toNat
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31 : BitVec 32 := 1#32
  let v43 : BitVec 32 := Scalar.muli v24 c1_i32_31
  let v44 : BitVec 32 := Scalar.addi c0_i32_32 v43
  v44.toNat
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_40 : BitVec 32 := 1#32
  let v52 : BitVec 32 := Scalar.muli v13 c1_i32_40
  let v53 : BitVec 32 := Scalar.addi c0_i32_41 v52
  v53.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v66 : BitVec 32 := Scalar.muli v2 c1024_i32
  let v67 : Index := Scalar.indexCast v66
  let c0_48 : Index := 0#32
  ![v67.toNat, 0]
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_88 : BitVec 32 := 1#32
  let v97 : BitVec 32 := Scalar.muli v13 c1_i32_88
  let v98 : BitVec 32 := Scalar.addi c0_i32_89 v97
  v98.toNat
def k0_dev7 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_91 : BitVec 32 := 1#32
  let v99 : BitVec 32 := Scalar.muli v24 c1_i32_91
  let v100 : BitVec 32 := Scalar.addi c0_i32_92 v99
  v100.toNat
def k0_dev8 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_101 : BitVec 32 := 1#32
  let v101 : BitVec 32 := Scalar.muli v24 c1_i32_101
  let v102 : BitVec 32 := Scalar.addi c0_i32_102 v101
  v102.toNat
def k0_dev9 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_111 : BitVec 32 := 1#32
  let v111 : BitVec 32 := Scalar.muli v13 c1_i32_111
  let v112 : BitVec 32 := Scalar.addi c0_i32_112 v111
  v112.toNat
def k0_dev10 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_133 : BitVec 32 := 0#32
  let v139 : BitVec 32 := Scalar.subi v2 c0_i32_133
  let c1_i32_134 : BitVec 32 := 1#32
  let v140 : BitVec 32 := Scalar.subi v139 c1_i32_134
  let c4_i32_135 : BitVec 32 := 4#32
  let c0_i32_136 : BitVec 32 := 0#32
  let v141 : BitVec 1 := Scalar.cmpi .eq c4_i32_135 c0_i32_136
  let c1_i32_137 : BitVec 32 := 1#32
  let v142 : BitVec 32 := Scalar.select v141 c1_i32_137 c4_i32_135
  let v143 : BitVec 32 := Scalar.remsi v140 v142
  let c0_i32_139 : BitVec 32 := 0#32
  let v145 : BitVec 1 := Scalar.cmpi .slt v143 c0_i32_139
  let c0_i32_140 : BitVec 32 := 0#32
  let v146 : BitVec 1 := Scalar.cmpi .slt v142 c0_i32_140
  let v147 : BitVec 1 := Scalar.xori v145 v146
  let c0_i32_138 : BitVec 32 := 0#32
  let v144 : BitVec 1 := Scalar.cmpi .ne v143 c0_i32_138
  let v148 : BitVec 1 := Scalar.andi v147 v144
  let v149 : BitVec 32 := Scalar.addi v143 v142
  let v150 : BitVec 32 := Scalar.select v148 v149 v143
  let c1_i32_153 : BitVec 32 := 1#32
  let v163 : BitVec 32 := Scalar.muli v150 c1_i32_153
  let v164 : BitVec 32 := Scalar.addi c0_i32_154 v163
  v164.toNat
def k0_dev11 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_141 : BitVec 32 := 0#32
  let v151 : BitVec 32 := Scalar.addi v2 c0_i32_141
  let c1_i32_142 : BitVec 32 := 1#32
  let v152 : BitVec 32 := Scalar.addi v151 c1_i32_142
  let c4_i32_143 : BitVec 32 := 4#32
  let c0_i32_144 : BitVec 32 := 0#32
  let v153 : BitVec 1 := Scalar.cmpi .eq c4_i32_143 c0_i32_144
  let c1_i32_145 : BitVec 32 := 1#32
  let v154 : BitVec 32 := Scalar.select v153 c1_i32_145 c4_i32_143
  let v155 : BitVec 32 := Scalar.remsi v152 v154
  let c0_i32_147 : BitVec 32 := 0#32
  let v157 : BitVec 1 := Scalar.cmpi .slt v155 c0_i32_147
  let c0_i32_148 : BitVec 32 := 0#32
  let v158 : BitVec 1 := Scalar.cmpi .slt v154 c0_i32_148
  let v159 : BitVec 1 := Scalar.xori v157 v158
  let c0_i32_146 : BitVec 32 := 0#32
  let v156 : BitVec 1 := Scalar.cmpi .ne v155 c0_i32_146
  let v160 : BitVec 1 := Scalar.andi v159 v156
  let v161 : BitVec 32 := Scalar.addi v155 v154
  let v162 : BitVec 32 := Scalar.select v160 v161 v155
  let c1_i32_163 : BitVec 32 := 1#32
  let v173 : BitVec 32 := Scalar.muli v162 c1_i32_163
  let v174 : BitVec 32 := Scalar.addi c0_i32_164 v173
  v174.toNat
def k0_dev12 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_208 : BitVec 32 := 1#32
  let v211 : BitVec 32 := Scalar.muli v13 c1_i32_208
  let v212 : BitVec 32 := Scalar.addi c0_i32_209 v211
  v212.toNat
def k0_dev13 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_211 : BitVec 32 := 1#32
  let v213 : BitVec 32 := Scalar.muli v24 c1_i32_211
  let v214 : BitVec 32 := Scalar.addi c0_i32_212 v213
  v214.toNat
def k0_dev14 (d0 : Dev nD) : Nat :=
  let c0_i32_222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_221 : BitVec 32 := 1#32
  let v215 : BitVec 32 := Scalar.muli v24 c1_i32_221
  let v216 : BitVec 32 := Scalar.addi c0_i32_222 v215
  v216.toNat
def k0_dev15 (d0 : Dev nD) : Nat :=
  let c0_i32_232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_231 : BitVec 32 := 1#32
  let v225 : BitVec 32 := Scalar.muli v13 c1_i32_231
  let v226 : BitVec 32 := Scalar.addi c0_i32_232 v225
  v226.toNat
def k0_dev16 (d0 : Dev nD) : Nat :=
  let c0_i32_268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_255 : BitVec 32 := 1#32
  let v253 : BitVec 32 := Scalar.subi v2 c1_i32_255
  let c1_i32_256 : BitVec 32 := 1#32
  let v254 : BitVec 32 := Scalar.subi v253 c1_i32_256
  let c4_i32_257 : BitVec 32 := 4#32
  let c0_i32_258 : BitVec 32 := 0#32
  let v255 : BitVec 1 := Scalar.cmpi .eq c4_i32_257 c0_i32_258
  let c1_i32_259 : BitVec 32 := 1#32
  let v256 : BitVec 32 := Scalar.select v255 c1_i32_259 c4_i32_257
  let v257 : BitVec 32 := Scalar.remsi v254 v256
  let c0_i32_261 : BitVec 32 := 0#32
  let v259 : BitVec 1 := Scalar.cmpi .slt v257 c0_i32_261
  let c0_i32_262 : BitVec 32 := 0#32
  let v260 : BitVec 1 := Scalar.cmpi .slt v256 c0_i32_262
  let v261 : BitVec 1 := Scalar.xori v259 v260
  let c0_i32_260 : BitVec 32 := 0#32
  let v258 : BitVec 1 := Scalar.cmpi .ne v257 c0_i32_260
  let v262 : BitVec 1 := Scalar.andi v261 v258
  let v263 : BitVec 32 := Scalar.addi v257 v256
  let v264 : BitVec 32 := Scalar.select v262 v263 v257
  let c1_i32_267 : BitVec 32 := 1#32
  let v265 : BitVec 32 := Scalar.muli v264 c1_i32_267
  let v266 : BitVec 32 := Scalar.addi c0_i32_268 v265
  v266.toNat
def k0_dev17 (d0 : Dev nD) : Nat :=
  let c0_i32_349 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_328 : BitVec 32 := 2#32
  let v321 : BitVec 32 := Scalar.subi v2 c2_i32_328
  let c1_i32_329 : BitVec 32 := 1#32
  let v322 : BitVec 32 := Scalar.subi v321 c1_i32_329
  let c4_i32_330 : BitVec 32 := 4#32
  let c0_i32_331 : BitVec 32 := 0#32
  let v323 : BitVec 1 := Scalar.cmpi .eq c4_i32_330 c0_i32_331
  let c1_i32_332 : BitVec 32 := 1#32
  let v324 : BitVec 32 := Scalar.select v323 c1_i32_332 c4_i32_330
  let v325 : BitVec 32 := Scalar.remsi v322 v324
  let c0_i32_334 : BitVec 32 := 0#32
  let v327 : BitVec 1 := Scalar.cmpi .slt v325 c0_i32_334
  let c0_i32_335 : BitVec 32 := 0#32
  let v328 : BitVec 1 := Scalar.cmpi .slt v324 c0_i32_335
  let v329 : BitVec 1 := Scalar.xori v327 v328
  let c0_i32_333 : BitVec 32 := 0#32
  let v326 : BitVec 1 := Scalar.cmpi .ne v325 c0_i32_333
  let v330 : BitVec 1 := Scalar.andi v329 v326
  let v331 : BitVec 32 := Scalar.addi v325 v324
  let v332 : BitVec 32 := Scalar.select v330 v331 v325
  let c1_i32_348 : BitVec 32 := 1#32
  let v345 : BitVec 32 := Scalar.muli v332 c1_i32_348
  let v346 : BitVec 32 := Scalar.addi c0_i32_349 v345
  v346.toNat
def k0_dev18 (d0 : Dev nD) : Nat :=
  let c0_i32_359 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_336 : BitVec 32 := 2#32
  let v333 : BitVec 32 := Scalar.addi v2 c2_i32_336
  let c1_i32_337 : BitVec 32 := 1#32
  let v334 : BitVec 32 := Scalar.addi v333 c1_i32_337
  let c4_i32_338 : BitVec 32 := 4#32
  let c0_i32_339 : BitVec 32 := 0#32
  let v335 : BitVec 1 := Scalar.cmpi .eq c4_i32_338 c0_i32_339
  let c1_i32_340 : BitVec 32 := 1#32
  let v336 : BitVec 32 := Scalar.select v335 c1_i32_340 c4_i32_338
  let v337 : BitVec 32 := Scalar.remsi v334 v336
  let c0_i32_342 : BitVec 32 := 0#32
  let v339 : BitVec 1 := Scalar.cmpi .slt v337 c0_i32_342
  let c0_i32_343 : BitVec 32 := 0#32
  let v340 : BitVec 1 := Scalar.cmpi .slt v336 c0_i32_343
  let v341 : BitVec 1 := Scalar.xori v339 v340
  let c0_i32_341 : BitVec 32 := 0#32
  let v338 : BitVec 1 := Scalar.cmpi .ne v337 c0_i32_341
  let v342 : BitVec 1 := Scalar.andi v341 v338
  let v343 : BitVec 32 := Scalar.addi v337 v336
  let v344 : BitVec 32 := Scalar.select v342 v343 v337
  let c1_i32_358 : BitVec 32 := 1#32
  let v355 : BitVec 32 := Scalar.muli v344 c1_i32_358
  let v356 : BitVec 32 := Scalar.addi c0_i32_359 v355
  v356.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_462 : BitVec 32 := 1024#32
  let v438 : BitVec 32 := Scalar.muli v24 c1024_i32_462
  let v439 : Index := Scalar.indexCast v438
  let c0_463 : Index := 0#32
  ![v439.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_467 : BitVec 32 := 1024#32
  let v444 : BitVec 32 := Scalar.muli v13 c1024_i32_467
  let v445 : Index := Scalar.indexCast v444
  let c256_468 : Index := 256#32
  ![v445.toNat, 256]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1024_i32_472 : BitVec 32 := 1024#32
  let v450 : BitVec 32 := Scalar.muli v35 c1024_i32_472
  let v451 : Index := Scalar.indexCast v450
  let c0_473 : Index := 0#32
  ![v451.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_477 : BitVec 32 := 1024#32
  let v456 : BitVec 32 := Scalar.muli v13 c1024_i32_477
  let v457 : Index := Scalar.indexCast v456
  let c0_478 : Index := 0#32
  ![v457.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_482 : BitVec 32 := 1024#32
  let v462 : BitVec 32 := Scalar.muli v24 c1024_i32_482
  let v463 : Index := Scalar.indexCast v462
  let c256_483 : Index := 256#32
  ![v463.toNat, 256]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdealPf.Protocol.lean ====
/-
  The protocol of the kernel's four devices, for any float instance `F`.

  Each device holds a row block `X d` of the left matrix and a column block `W d` of the right one. The right blocks go
  around the ring of devices in both directions, half the columns each way; every device multiplies its rows by each
  half block that reaches it and sends the product, a tile of the result, to the device whose columns it is.

  This module names the memory views and semaphore cells the kernel uses, the contents each of them holds when it is
  handed over, and the schedule of hand-overs (`rd`): which cell is raised in which round, by how much, and what the
  device that waits on it receives.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.VecWindow
public import Idealize.ShloMosaic.Lib.Tactic

@[expose] public section

set_option maxRecDepth 16384

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The resource algebra -/

/-- The pipeline's rounds (left) and the ring's (right), the ring's with up to three duties a round. -/
abbrev UU : Type := UR sig nD τ × URounds (GSem nD τ sig) (Fin 3)

/-- The resources the proof is carried out in. -/
abbrev MM (F : FTy → Type) : Type := MT nD τ sig Bool (Elt F) ℕ UU ℕ

abbrev EP : Emb (UR sig nD τ) (MM F) := embL
abbrev ER : Emb (URounds (GSem nD τ sig) (Fin 3)) (MM F) := embR

/-! ## The ring of devices -/

set_option backward.proofsInPublic true in
/-- The device `n` places to the right of `c`: 1 is the right neighbour, 2 the opposite device, 3 the left neighbour. -/
def sh (n : Fin 4) (c : Dev nD) : Dev nD := ⟨(c.val + n.val) % 4, Nat.mod_lt _ (by decide)⟩

set_option backward.proofsInPublic true in
/-- The shift that undoes the shift by `n`. -/
def inv (n : Fin 4) : Fin 4 := ⟨(4 - n.val) % 4, Nat.mod_lt _ (by decide)⟩

theorem sh_inv (n : Fin 4) (c : Dev nD) : sh (inv n) (sh n c) = c := by revert n c; decide
theorem inv_sh (n : Fin 4) (c : Dev nD) : sh n (sh (inv n) c) = c := by revert n c; decide
theorem sh_zero (c : Dev nD) : sh 0 c = c := by revert c; decide
theorem sh_1_3 (c : Dev nD) : sh 1 (sh 3 c) = c := by revert c; decide
theorem sh_3_1 (c : Dev nD) : sh 3 (sh 1 c) = c := by revert c; decide
theorem sh_2_2 (c : Dev nD) : sh 2 (sh 2 c) = c := by revert c; decide
theorem sh_1_1 (c : Dev nD) : sh 1 (sh 1 c) = sh 2 c := by revert c; decide
theorem sh_3_3 (c : Dev nD) : sh 3 (sh 3 c) = sh 2 c := by revert c; decide
theorem sh_1_2 (c : Dev nD) : sh 1 (sh 2 c) = sh 3 c := by revert c; decide
theorem sh_2_1 (c : Dev nD) : sh 2 (sh 1 c) = sh 3 c := by revert c; decide
theorem sh_3_2 (c : Dev nD) : sh 3 (sh 2 c) = sh 1 c := by revert c; decide
theorem sh_2_3 (c : Dev nD) : sh 2 (sh 3 c) = sh 1 c := by revert c; decide

/-- The shift by `n` as a bijection of the devices. -/
def shE (n : Fin 4) : Dev nD ≃ Dev nD := ⟨sh n, sh (inv n), sh_inv n, inv_sh n⟩

/-! ## The semaphore cells of a device -/

/-- The cells: the barrier; per direction of travel (`true` to the right) the credit, the send and receive cells of the
    three hops; the send and receive cells of the five tiles. -/
inductive Cell where
  | bar
  | cr (b : Bool)
  | rs (b : Bool) (h : Fin 3)
  | rr (b : Bool) (h : Fin 3)
  | ts (s : Fin 5)
  | tr (s : Fin 5)
  deriving DecidableEq

/-- All cells of a device. -/
def Cell.all : List Cell :=
  [.bar, .cr true, .cr false, .rs true 0, .rs true 1, .rs true 2, .rr true 0, .rr true 1, .rr true 2,
    .rs false 0, .rs false 1, .rs false 2, .rr false 0, .rr false 1, .rr false 2,
    .ts 0, .ts 1, .ts 2, .ts 3, .ts 4, .tr 0, .tr 1, .tr 2, .tr 3, .tr 4]

theorem Cell.all_nodup : Cell.all.Nodup := by decide
theorem Cell.mem_all (k : Cell) : k ∈ Cell.all := by
  cases k with
  | bar => decide
  | cr b => revert b; decide
  | rs b h => revert b h; decide
  | rr b h => revert b h; decide
  | ts s => revert s; decide
  | tr s => revert s; decide

instance : Fintype Cell := ⟨⟨Cell.all, Cell.all_nodup⟩, Cell.mem_all⟩

/-- The semaphore of a cell. -/
def semOf : Cell → SemLoc sig
  | .bar => .reg barrier0
  | .cr true => .reg (0 : Sem sig)
  | .cr false => .reg (1 : Sem sig)
  | .rs true h => .dma (⟨3 + h.val, by have := h.isLt; show 3 + h.val < 25; omega⟩ : DmaSem sig)
  | .rr true h => .dma (⟨6 + h.val, by have := h.isLt; show 6 + h.val < 25; omega⟩ : DmaSem sig)
  | .rs false h => .dma (⟨9 + h.val, by have := h.isLt; show 9 + h.val < 25; omega⟩ : DmaSem sig)
  | .rr false h => .dma (⟨12 + h.val, by have := h.isLt; show 12 + h.val < 25; omega⟩ : DmaSem sig)
  | .ts s => .dma (⟨15 + s.val, by have := s.isLt; show 15 + s.val < 25; omega⟩ : DmaSem sig)
  | .tr s => .dma (⟨20 + s.val, by have := s.isLt; show 20 + s.val < 25; omega⟩ : DmaSem sig)

/-- The cell of a semaphore; none of the pipeline's own. -/
def cellAt : SemLoc sig → Option Cell
  | .reg i => (match i.val with | 0 => some (.cr true) | 1 => some (.cr false) | 2 => some .bar | _ => none)
  | .dma i => (match i.val with
      | 3 => some (.rs true 0) | 4 => some (.rs true 1) | 5 => some (.rs true 2)
      | 6 => some (.rr true 0) | 7 => some (.rr true 1) | 8 => some (.rr true 2)
      | 9 => some (.rs false 0) | 10 => some (.rs false 1) | 11 => some (.rs false 2)
      | 12 => some (.rr false 0) | 13 => some (.rr false 1) | 14 => some (.rr false 2)
      | 15 => some (.ts 0) | 16 => some (.ts 1) | 17 => some (.ts 2) | 18 => some (.ts 3) | 19 => some (.ts 4)
      | 20 => some (.tr 0) | 21 => some (.tr 1) | 22 => some (.tr 2) | 23 => some (.tr 3) | 24 => some (.tr 4)
      | _ => none)

theorem cellAt_semOf (k : Cell) : cellAt (semOf k) = some k := by
  cases k with
  | bar => rfl
  | cr b => cases b <;> rfl
  | rs b h => cases b <;> (revert h; decide)
  | rr b h => cases b <;> (revert h; decide)
  | ts s => revert s; decide
  | tr s => revert s; decide

theorem semOf_inj {k k' : Cell} (h : semOf k = semOf k') : k = k' := by
  have := congrArg cellAt h
  rw [cellAt_semOf, cellAt_semOf] at this
  exact Option.some.inj this

/-- Cell `k` of device `c`. -/
def cell (c : Dev nD) (k : Cell) : GSem nD τ sig := ((c : Thread nD τ), semOf k)

theorem cell_inj {p q : Dev nD × Cell} (h : cell p.1 p.2 = cell q.1 q.2) : p = q := by
  obtain ⟨c, k⟩ := p
  obtain ⟨c', k'⟩ := q
  have h1 : c = c' := congrArg (fun g : GSem nD τ sig => g.1.1) h
  have h2 : k = k' := semOf_inj (congrArg (fun g : GSem nD τ sig => g.2) h)
  rw [h1, h2]

/-! ## The views -/

/-- The slots of the two ring buffers. -/
abbrev commV (M : Memref sig .tc .vmem S2x4096x256 .bf16) : Fin 2 → Memref sig .tc .vmem S4096x256 .bf16
  | 0 => (M.slice (Rect.unit (s := S2x4096x256) ![0, 0, 0] S1x4096x256.size inb_S2x4096x256_S1x4096x256_0_0_0) (fun _ => rfl)).squeeze S4096x256 squeezes_S1x4096x256_S4096x256
  | 1 => (M.slice (Rect.unit (s := S2x4096x256) ![1, 0, 0] S1x4096x256.size inb_S2x4096x256_S1x4096x256_1_0_0) (fun _ => rfl)).squeeze S4096x256 squeezes_S1x4096x256_S4096x256

/-- The ring buffer of a direction. -/
abbrev commM : Bool → Memref sig .tc .vmem S2x4096x256 .bf16
  | true => Memref.whole cc0_scratch0
  | false => Memref.whole cc0_scratch1

abbrev comm (b : Bool) (s : Fin 2) : Memref sig .tc .vmem S4096x256 .bf16 := commV (commM b) s

/-- The two column halves of the device's own right block, as staged. -/
abbrev wM : Memref sig .tc .vmem S4096x512 .bf16 := Memref.whole cc0_stg1_0
abbrev wV : Bool → Memref sig .tc .vmem S4096x256 .bf16
  | true => wM.slice (Rect.unit (s := S4096x512) ![0, 0] S4096x256.size inb_S4096x512_S4096x256_0_0) (fun _ => rfl)
  | false => wM.slice (Rect.unit (s := S4096x512) ![0, 256] S4096x256.size inb_S4096x512_S4096x256_0_256) (fun _ => rfl)

/-- The tile buffers: what the device multiplied, and what it received. -/
abbrev bufM : Memref sig .tc .vmem S3x1024x512 .bf16 := Memref.whole cc0_scratch2
abbrev rxM : Memref sig .tc .vmem S3x1024x512 .bf16 := Memref.whole cc0_scratch3

/-- The tiles of a tile buffer: two halves of the first third, the whole second third, two halves of the last. -/
abbrev tile0 (M : Memref sig .tc .vmem S3x1024x512 .bf16) : Memref sig .tc .vmem S1024x256 .bf16 :=
  (M.slice (Rect.unit (s := S3x1024x512) ![0, 0, 0] S1x1024x256.size inb_S3x1024x512_S1x1024x256_0_0_0) (fun _ => rfl)).squeeze S1024x256 squeezes_S1x1024x256_S1024x256
abbrev tile1 (M : Memref sig .tc .vmem S3x1024x512 .bf16) : Memref sig .tc .vmem S1024x256 .bf16 :=
  (M.slice (Rect.unit (s := S3x1024x512) ![0, 0, 256] S1x1024x256.size inb_S3x1024x512_S1x1024x256_0_0_256) (fun _ => rfl)).squeeze S1024x256 squeezes_S1x1024x256_S1024x256
abbrev tile2 (M : Memref sig .tc .vmem S3x1024x512 .bf16) : Memref sig .tc .vmem S1024x512 .bf16 :=
  (M.slice (Rect.unit (s := S3x1024x512) ![1, 0, 0] S1x1024x512.size inb_S3x1024x512_S1x1024x512_1_0_0) (fun _ => rfl)).squeeze S1024x512 squeezes_S1x1024x512_S1024x512
abbrev tile3 (M : Memref sig .tc .vmem S3x1024x512 .bf16) : Memref sig .tc .vmem S1024x256 .bf16 :=
  (M.slice (Rect.unit (s := S3x1024x512) ![2, 0, 0] S1x1024x256.size inb_S3x1024x512_S1x1024x256_2_0_0) (fun _ => rfl)).squeeze S1024x256 squeezes_S1x1024x256_S1024x256
abbrev tile4 (M : Memref sig .tc .vmem S3x1024x512 .bf16) : Memref sig .tc .vmem S1024x256 .bf16 :=
  (M.slice (Rect.unit (s := S3x1024x512) ![2, 0, 256] S1x1024x256.size inb_S3x1024x512_S1x1024x256_2_0_256) (fun _ => rfl)).squeeze S1024x256 squeezes_S1x1024x256_S1024x256

/-! ## Holding a view -/

section Holding

variable {sp : Space} {s : Shape} {e : EltTy}

/-- Device `c` holds the elements of view `M` at share `q`, and they read `v`. -/
def holds (M : Memref sig .tc sp s e) (c : Dev nD) (q : PosShare TreeShare) (v : s.Idx → Elt F e) : sProp (MM F) :=
  M.view.loc (c : Thread nD τ) ↦[M.view.set]{q} M.view.rep v

/-- Device `c` holds the elements of view `M` in full, at some contents. -/
def free (M : Memref sig .tc sp s e) (c : Dev nD) : sProp (MM F) :=
  iprop(∃ f : Buf (Elt F) (M.view.loc (c : Thread nD τ)), M.view.loc (c : Thread nD τ) ↦[M.view.set]{fullShare} f)

instance holds_storable (M : Memref sig .tc sp s e) (c : Dev nD) (q : PosShare TreeShare) (v : s.Idx → Elt F e) :
    BI.Storable (upEmb : UEmb _ (MM F)) (holds M c q v) := by unfold holds; infer_instance
instance free_storable (M : Memref sig .tc sp s e) (c : Dev nD) :
    BI.Storable (upEmb : UEmb _ (MM F)) (free M c) := by unfold free; infer_instance

theorem holds_of_read (M : Memref sig .tc sp s e) (c : Dev nD) (q : PosShare TreeShare) (v : s.Idx → Elt F e)
    (f : Buf (Elt F) (M.view.loc (c : Thread nD τ))) (h : M.view.read (Elt F) f = v) :
    (M.view.loc (c : Thread nD τ) ↦[M.view.set]{q} f : sProp (MM F)) = holds M c q v := by
  subst h
  exact pointsTo_rep (Ix := Bool) (Name := ℕ) (U := UU) (Lvl := ℕ) (c : Thread nD τ) M f q

theorem holds_free (M : Memref sig .tc sp s e) (c : Dev nD) (v : s.Idx → Elt F e) :
    (holds M c fullShare v : sProp (MM F)) ⊢ free M c := by
  unfold holds free
  iintro H
  iexists _
  iexact H

/-- A view held in full is held at two half shares. -/
theorem holds_halves (M : Memref sig .tc sp s e) (c : Dev nD) (v : s.Idx → Elt F e) :
    (holds M c fullShare v : sProp (MM F)) ⊣⊢ holds M c fullShare.left v ∗ holds M c fullShare.right v := by
  unfold holds
  exact pointsTo_share (PosShare.mem_left_op_right fullShare)

end Holding

/-! ## The values -/

section Values

variable (X : Dev nD → FVec F S1024x4096 .bf16) (W : Dev nD → FVec F S4096x512 .bf16)

/-- The columns of device `d`'s right block that travel in direction `b`. -/
def wHalf (d : Dev nD) : Bool → FVec F S4096x256 .bf16
  | true => (wV true).view.read (Elt F) (W d)
  | false => (wV false).view.read (Elt F) (W d)

/-- The product of a row block and a half column block, as the kernel keeps it. -/
def prod (x : FVec F S1024x4096 .bf16) (w : FVec F S4096x256 .bf16) : FVec F S1024x256 .bf16 :=
  truncf .bf16 (matmul dot_S1024x4096_S4096x256_S1024x256_1_0_0_1_n_n none x w (constant S1024x256 .f32 0x00000000#32)) bitsLt_bf16_f32

/-- The tile of rows `d`, columns `e`, half `b`. -/
def tileOf (d e : Dev nD) (b : Bool) : FVec F S1024x256 .bf16 := prod (X d) (wHalf W e b)

/-- Two half tiles side by side. -/
def beside (l r : FVec F S1024x256 .bf16) : FVec F S1024x512 .bf16 := fun i =>
  if h : (i 1).val < 256 then l (fun a => match a with | 0 => ⟨(i 0).val, (i 0).isLt⟩ | 1 => ⟨(i 1).val, h⟩)
  else r (fun a => match a with | 0 => ⟨(i 0).val, (i 0).isLt⟩ | 1 => ⟨(i 1).val - 256, by
    have h1 : (i 1).val < 512 := (i 1).isLt
    show (i 1).val - 256 < 256
    omega⟩)

/-- Tile `s` of tile buffer `M` held in full, its left columns at `l` and its right columns at `r`. -/
def tileAt (M : Memref sig .tc .vmem S3x1024x512 .bf16) (c : Dev nD) (l r : FVec F S1024x256 .bf16) : Fin 5 → sProp (MM F)
  | 0 => holds (tile0 M) c fullShare l
  | 1 => holds (tile1 M) c fullShare r
  | 2 => holds (tile2 M) c fullShare (beside l r)
  | 3 => holds (tile3 M) c fullShare l
  | 4 => holds (tile4 M) c fullShare r

/-- Tile `s` of tile buffer `M` held in full at some contents. -/
def tileFree (M : Memref sig .tc .vmem S3x1024x512 .bf16) (c : Dev nD) : Fin 5 → sProp (MM F)
  | 0 => free (tile0 M) c
  | 1 => free (tile1 M) c
  | 2 => free (tile2 M) c
  | 3 => free (tile3 M) c
  | 4 => free (tile4 M) c

/-- Where tile `s` goes, and where it comes from, as shifts. -/
def tileTo : Fin 5 → Fin 4 := ![3, 1, 2, 1, 3]
def tileFrom : Fin 5 → Fin 4 := ![1, 3, 2, 3, 1]

/-- The slot hop `h` lands in, and the block of the right matrix that has reached the device then, as a shift. -/
def hopSlot : Fin 3 → Fin 2 := ![1, 0, 1]
def hopFrom : Bool → Fin 3 → Fin 4
  | true => ![3, 2, 1]
  | false => ![1, 2, 3]

/-- All cells of device `c` have been set up. -/
def ready (c : Dev nD) : sProp (MM F) := bigSep Finset.univ fun k : Cell => reached ER (cell c k) 0

instance ready_persistent (c : Dev nD) : BI.Persistent (ready (F := F) c) := by unfold ready; infer_instance
instance ready_storable (c : Dev nD) : BI.Storable (upEmb : UEmb _ (MM F)) (ready (F := F) c) := by
  unfold ready; infer_instance

theorem ready_get (c : Dev nD) (k : Cell) : (ready c : sProp (MM F)) ⊢ reached ER (cell c k) 0 := by
  unfold ready
  exact bigSep_elim (Finset.mem_univ k)

/-! ## The schedule -/

/-- What the device at shift `n` hands over with its barrier signal: the slots the receiver will fill there. -/
def barPay (n : Dev nD) : Fin 3 → sProp (MM F)
  | 0 => iprop(ready n ∗ free (comm true 1) n ∗ tileFree rxM n 1 ∗ tileFree rxM n 3)
  | 1 => iprop(ready n ∗ free (comm false 1) n ∗ tileFree rxM n 0 ∗ tileFree rxM n 4)
  | 2 => iprop(ready n ∗ tileFree rxM n 2)

/-- The shift of the device that pays duty `i` of a barrier. -/
def barFrom : Fin 3 → Fin 4 := ![1, 3, 2]

/-- The neighbour a ring transfer in direction `b` goes to, and the one it comes from, as shifts. -/
def ringTo : Bool → Fin 4 | true => 1 | false => 3
def ringFrom : Bool → Fin 4 | true => 3 | false => 1

/-- What the device receives with round `r` of its credit: the slot of the next device that is free again. -/
def crPay (c : Dev nD) (b : Bool) : ℕ → sProp (MM F)
  | 0 => free (comm b 0) (sh (ringTo b) c)
  | _ => free (comm b 1) (sh (ringTo b) c)

/-- What the device gets back from hop `h`: the half share of the source that was lent. -/
def rsPay (c : Dev nD) (b : Bool) : Fin 3 → sProp (MM F)
  | 0 => holds (wV b) c fullShare.right (wHalf W c b)
  | 1 => holds (comm b 1) c fullShare.right (wHalf W (sh (hopFrom b 0) c) b)
  | 2 => holds (comm b 0) c fullShare.right (wHalf W (sh (hopFrom b 1) c) b)

/-- What else arrives with hop `h`: after the second hop, that the sender's credit has reached its second round. -/
def hopExtra (c : Dev nD) (b : Bool) : Fin 3 → sProp (MM F)
  | 0 => iprop(emp)
  | 1 => reached ER (cell (sh (ringFrom b) c) (.cr b)) 1
  | 2 => iprop(emp)

/-- What the device receives with hop `h`: the landing slot, filled. -/
def rrPay (c : Dev nD) (b : Bool) (h : Fin 3) : sProp (MM F) :=
  iprop(holds (comm b (hopSlot h)) c fullShare (wHalf W (sh (hopFrom b h) c) b) ∗ hopExtra c b h)

def tsPay (c : Dev nD) (s : Fin 5) : sProp (MM F) :=
  tileAt bufM c (tileOf X W c (sh (tileTo s) c) true) (tileOf X W c (sh (tileTo s) c) false) s
def trPay (c : Dev nD) (s : Fin 5) : sProp (MM F) :=
  tileAt rxM c (tileOf X W (sh (tileFrom s) c) c true) (tileOf X W (sh (tileFrom s) c) c false) s

/-- The duties of round `r` of a cell: the barrier has three in one round, a credit one in each of two rounds, every other
    cell one in one round. -/
def dutiesOf : Cell → ℕ → Finset (Fin 3)
  | .bar, r => if r = 0 then Finset.univ else ∅
  | .cr _, r => if r < 2 then {0} else ∅
  | .rs _ _, r => if r = 0 then {0} else ∅
  | .rr _ _, r => if r = 0 then {0} else ∅
  | .ts _, r => if r = 0 then {0} else ∅
  | .tr _, r => if r = 0 then {0} else ∅

/-- What one ring transfer, one half tile and one whole tile credit. -/
def nRing : ℕ := (comm true 0).view.dmaCredit
def nHalf : ℕ := (tile0 rxM).view.dmaCredit
def nFull : ℕ := (tile2 rxM).view.dmaCredit
def nTile : Fin 5 → ℕ := ![nHalf, nHalf, nFull, nHalf, nHalf]

theorem nRing_pos : 0 < nRing := View.dmaCredit_pos _ (by decide)
theorem nHalf_pos : 0 < nHalf := View.dmaCredit_pos _ (by decide)
theorem nFull_pos : 0 < nFull := View.dmaCredit_pos _ (by decide)
theorem nTile_pos (s : Fin 5) : 0 < nTile s := by
  fin_cases s
  exacts [nHalf_pos, nHalf_pos, nFull_pos, nHalf_pos, nHalf_pos]

def amountOf : Cell → ℕ
  | .bar => 1
  | .cr _ => 1
  | .rs _ _ => nRing
  | .rr _ _ => nRing
  | .ts s => nTile s
  | .tr s => nTile s

theorem amountOf_pos (k : Cell) : 0 < amountOf k := by
  cases k
  exacts [Nat.one_pos, Nat.one_pos, nRing_pos, nRing_pos, nTile_pos _, nTile_pos _]

/-- What duty `i` of round `r` of cell `k` hands to device `c`. -/
def payOf (c : Dev nD) : Cell → ℕ → Fin 3 → sProp (MM F)
  | .bar, _, i => barPay (sh (barFrom i) c) i
  | .cr b, r, _ => crPay c b r
  | .rs b h, _, _ => rsPay W c b h
  | .rr b h, _, _ => rrPay W c b h
  | .ts s, _, _ => tsPay X W c s
  | .tr s, _, _ => trPay X W c s

instance tileAt_storable (M : Memref sig .tc .vmem S3x1024x512 .bf16) (c : Dev nD) (l r : FVec F S1024x256 .bf16) (s : Fin 5) :
    BI.Storable (upEmb : UEmb _ (MM F)) (tileAt M c l r s) := by
  unfold tileAt; split <;> infer_instance
instance tileFree_storable (M : Memref sig .tc .vmem S3x1024x512 .bf16) (c : Dev nD) (s : Fin 5) :
    BI.Storable (upEmb : UEmb _ (MM F)) (tileFree M c s) := by
  unfold tileFree; split <;> infer_instance
instance hopExtra_storable (c : Dev nD) (b : Bool) (h : Fin 3) :
    BI.Storable (upEmb : UEmb _ (MM F)) (hopExtra c b h) := by
  unfold hopExtra; split <;> infer_instance

instance payOf_storable (c : Dev nD) (k : Cell) (r : ℕ) (i : Fin 3) :
    BI.Storable (upEmb : UEmb _ (MM F)) (payOf X W c k r i) := by
  unfold payOf
  split
  · unfold barPay; split <;> infer_instance
  · unfold crPay; split <;> infer_instance
  · unfold rsPay; split <;> infer_instance
  · unfold rrPay; infer_instance
  · unfold tsPay; infer_instance
  · unfold trPay; infer_instance

/-- The schedule of the four devices' hand-overs. -/
def rd : Rounds.Schedule (GSem nD τ sig) (Fin 3) (MM F) where
  duties g r := if g.1.2 = .tc then (cellAt g.2).elim ∅ (fun k => dutiesOf k r) else ∅
  unitless _ := False
  amount g _ _ := (cellAt g.2).elim 1 amountOf
  payload g r i := (cellAt g.2).elim iprop(emp) (fun k => payOf X W g.1.1 k r i)
  amount_pos g _ _ _ := by
    cases cellAt g.2 with
    | none => exact Nat.one_pos
    | some k => exact amountOf_pos k

instance rd_storable (g : GSem nD τ sig) (r : ℕ) (i : Fin 3) :
    BI.Storable (upEmb : UEmb _ (MM F)) ((rd X W).payload g r i) := by
  show BI.Storable upEmb ((cellAt g.2).elim iprop(emp) (fun k => payOf X W g.1.1 k r i))
  cases cellAt g.2 with
  | none => show BI.Storable upEmb (iprop(emp)); infer_instance
  | some k => show BI.Storable upEmb (payOf X W g.1.1 k r i); infer_instance

theorem rd_duties (c : Dev nD) (k : Cell) (r : ℕ) : (rd X W).duties (cell c k) r = dutiesOf k r := by
  show (if (cell c k).1.2 = .tc then (cellAt (cell c k).2).elim ∅ (fun k => dutiesOf k r) else ∅) = _
  refine (if_pos rfl).trans ?_
  unfold cell
  rw [cellAt_semOf]
  rfl

theorem rd_amount (c : Dev nD) (k : Cell) (r : ℕ) (i : Fin 3) : (rd X W).amount (cell c k) r i = amountOf k := by
  show (cellAt (cell c k).2).elim 1 amountOf = _
  unfold cell
  rw [cellAt_semOf]
  rfl

theorem rd_payload (c : Dev nD) (k : Cell) (r : ℕ) (i : Fin 3) : (rd X W).payload (cell c k) r i = payOf X W c k r i := by
  show (cellAt (cell c k).2).elim iprop(emp) (fun k => payOf X W (cell c k).1.1 k r i) = _
  unfold cell
  rw [cellAt_semOf]
  rfl

theorem rd_expect (c : Dev nD) (k : Cell) (r : ℕ) : (rd X W).expect (cell c k) r = (dutiesOf k r).card * amountOf k := by
  unfold Schedule.expect Schedule.amountOf
  rw [rd_duties, Finset.sum_congr rfl (fun i _ => rd_amount X W c k r i), Finset.sum_const, smul_eq_mul]

theorem dutiesOf_one {k : Cell} {r : ℕ} (hk : k ≠ .bar) (hr : r = 0 ∨ (r = 1 ∧ ∃ b, k = .cr b)) : dutiesOf k r = {0} := by
  rcases hr with rfl | ⟨rfl, b, rfl⟩
  · cases k
    · exact absurd rfl hk
    all_goals rfl
  · rfl

theorem rd_later (c : Dev nD) (k : Cell) (n : ℕ) (hn : n = 2 ∨ (n = 1 ∧ ∀ b, k ≠ .cr b)) :
    ∀ r, n ≤ r → (rd X W).duties (cell c k) r = ∅ := by
  intro r hr
  rw [rd_duties]
  rcases hn with rfl | ⟨rfl, h⟩
  · cases k <;> first | exact if_neg (by omega) | exact if_neg (Nat.not_lt.2 hr)
  · cases k
    case cr b => exact absurd rfl (h b)
    all_goals exact if_neg (by omega)

end Values

end Cert.KernelIdealPf

end
-- ==== Proof.KernelIdealPf.Steps.lean ====
/-
  The rules of one step of a device's run: a signal, a wait, a transfer, a load and a store, each at the schedule `rd`.
-/
module

public import proofs.«01_k».proof.Proof.KernelIdealPf.Protocol
public import Idealize.ShloMosaic.Lib.Writes

@[expose] public section

set_option maxRecDepth 16384

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

abbrev 𝒱₀ : Variants := Variants.none

/-! ## What a device owes, and the levels its waits are ordered by -/

/-- The debts of device `c` in a list: each names the device owed by its shift, the cell, and the index (`true` for the
    second round of a credit). -/
def debts (c : Dev nD) : List (Fin 4 × Cell × Bool) → CellTallies nD τ sig Bool
  | [] => 0
  | x :: l => debts c l + tallyAt (cell (sh x.1 c) x.2.1) x.2.2 (amountOf x.2.1)

/-- All debts of a device, in the order it pays them. -/
def plan : List (Fin 4 × Cell × Bool) :=
  [(3, .bar, false), (1, .bar, false), (2, .bar, false),
    (1, .rr true 0, false), (3, .rr false 0, false),
    (3, .cr true, false), (1, .cr false, false),
    (1, .rr true 1, false), (3, .rr false 1, false),
    (3, .tr 0, false), (1, .tr 1, false),
    (3, .cr true, true), (1, .cr false, true),
    (1, .rr true 2, false), (3, .rr false 2, false),
    (2, .tr 2, false), (1, .tr 3, false), (3, .tr 4, false)]

/-- The level of a cell at an index: a device waits only below everything it still owes. -/
def level : Cell → Bool → ℕ
  | .bar, _ => 1
  | .cr _, false => 3
  | .cr _, true => 5
  | .rs _ _, _ => 0
  | .rr _ h, _ => 2 + 2 * h.val
  | .ts _, _ => 0
  | .tr _, _ => 7

def L (g : GSem nD τ sig) : Finset Bool := if g.1.2 = .tc then Finset.univ else ∅
def lv (g : GSem nD τ sig) (ι : Bool) : ℕ := (cellAt g.2).elim 0 (fun k => level k ι)

theorem L_of_ne (g : GSem nD τ sig) (h : g.1.2 ≠ .tc) : L g = ∅ := if_neg h
theorem L_tc (c : Dev nD) (sm : SemLoc sig) : L ((c : Thread nD τ), sm) = Finset.univ := if_pos rfl
theorem lv_cell (c : Dev nD) (k : Cell) (ι : Bool) : lv (cell c k) ι = level k ι := by
  unfold lv cell
  rw [cellAt_semOf]
  rfl

theorem debts_pos (c : Dev nD) (g : GSem nD τ sig) (ι : Bool) :
    ∀ l : List (Fin 4 × Cell × Bool), 0 < debts c l g ι → ∃ x ∈ l, g = cell (sh x.1 c) x.2.1 ∧ ι = x.2.2
  | [], h => absurd h (Nat.lt_irrefl 0)
  | x :: l, h => by
    by_cases hx : g = cell (sh x.1 c) x.2.1 ∧ ι = x.2.2
    · exact ⟨x, List.mem_cons_self, hx⟩
    · have h' : 0 < debts c l g ι := by
        have e : debts c (x :: l) g ι = debts c l g ι + tallyAt (cell (sh x.1 c) x.2.1) x.2.2 (amountOf x.2.1) g ι := rfl
        rw [e, tallyAt_apply, if_neg hx, Nat.add_zero] at h
        exact h
      obtain ⟨y, hy, hy'⟩ := debts_pos c g ι l h'
      exact ⟨y, List.mem_cons_of_mem _ hy, hy'⟩

theorem mayWait (c : Dev nD) (k : Cell) (ι : Bool) (l : List (Fin 4 × Cell × Bool)) (hl : ∀ x ∈ l, level k ι < level x.2.1 x.2.2) :
    (levAts L lv : sProp (MM F)) ⊢ MayWait (c : Thread nD τ) (semOf k) ι (debts c l) :=
  MayOwe.of_cut (L := L) (lev := lv) (level k ι)
    (fun p hp => by rw [Finset.mem_singleton.mp hp, L_tc]; exact Finset.mem_univ _)
    (fun g u hg => by
      obtain ⟨x, -, rfl, rfl⟩ := debts_pos c g u l hg
      unfold cell
      rw [L_tc]
      exact Finset.mem_univ _)
    (fun p hp => by
      rw [Finset.mem_singleton.mp hp]
      exact le_of_eq (lv_cell c k ι))
    (fun g u hg => by
      obtain ⟨x, hx, rfl, rfl⟩ := debts_pos c g u l hg
      rw [lv_cell]
      exact hl x hx)

/-- Device `c` owes the debts of the list, whatever it has waited on. -/
def debt (c : Dev nD) (l : List (Fin 4 × Cell × Bool)) : sProp (MM F) :=
  iprop(∃ Wd, owes (c : Thread nD τ) (debts c l) Wd)

section Rules

variable (X : Dev nD → FVec F S1024x4096 .bf16) (W : Dev nD → FVec F S4096x512 .bf16)
variable (κ : Dev nD × Cell → ℕ)

/-- Every cell follows the schedule. -/
def invs : sProp (MM F) := bigSep Finset.univ fun p : Dev nD × Cell => cellInv ER (rd X W) (κ p) (cell p.1 p.2)

instance invs_persistent : BI.Persistent (invs X W κ) := by unfold invs; infer_instance

theorem invs_get (c : Dev nD) (k : Cell) : invs X W κ ⊢ cellInv ER (rd X W) (κ (c, k)) (cell c k) := by
  unfold invs
  exact bigSep_elim (Φ := fun p : Dev nD × Cell => cellInv ER (rd X W) (κ p) (cell p.1 p.2)) (Finset.mem_univ (c, k))

/-- What every step may use: the cells' invariants and the levels. -/
def ctx : sProp (MM F) := iprop(invs X W κ ∗ levAts L lv)

instance ctx_persistent : BI.Persistent (ctx X W κ) := by unfold ctx; infer_instance

theorem ctx_inv (c : Dev nD) (k : Cell) : ctx X W κ ⊢ cellInv ER (rd X W) (κ (c, k)) (cell c k) := by
  unfold ctx
  iintro ⟨#H, -⟩
  iapply (invs_get X W κ c k)
  iexact H

theorem ctx_lev : ctx X W κ ⊢ levAts L lv := by
  unfold ctx
  iintro ⟨-, #H⟩
  iexact H

/-! ## Signals -/

theorem step_signal {α : Type} (c : Dev nD) (m : Fin 4) (k : Cell) (ι : Bool) (l : List (Fin 4 × Cell × Bool)) (r : ℕ) (i : Fin 3)
    {n : Dev nD} {s : Sem sig} (hn : n = sh m c) (hs : (SemLoc.reg s : SemLoc sig) = semOf k) (hi : i ∈ dutiesOf k r)
    (h1 : amountOf k = 1) {f : PUnit → Prog (TpuEff nD τ sig (Elt F) Λ₀ .tc) α} {Q : α → sProp (MM F)} :
    iprop(ctx X W κ ∗ debt c ((m, k, ι) :: l) ∗ dutyTok ER (cell (sh m c) k) r i ∗ payOf X W (sh m c) k r i
        ∗ reached ER (cell (sh m c) k) r)
      ⊢ iprop((debt c l -∗ wp frame (wpE (defs₀ (F := F)) 𝒱₀ (c : Thread nD τ) none) Set.univ (f ⟨⟩) Q)
          -∗ wp frame (wpE (defs₀ (F := F)) 𝒱₀ (c : Thread nD τ) none) Set.univ (.op (.semSignal (n : Thread nD τ) s 1) f) Q) := by
  subst hn
  unfold debt
  have hg : cell (sh m c) k = ((sh m c : Thread nD τ), SemLoc.reg s) := by unfold cell; rw [hs]
  have hI := ctx_inv X W κ (sh m c) k
  rw [hg] at hI
  rw [← rd_payload X W (sh m c) k r i, hg]
  iintro ⟨#HC, ⟨%Wd, HO⟩, Ht, Hp, Hr⟩ Hk
  ihave HI := hI $$ HC
  iapply (Rounds.wp_signal 𝒱₀ ER (rd X W) (c : Thread nD τ) none (dst := (sh m c : Thread nD τ)) (sem := s) (r := r) (d := i)
    (k' := 1) (κ := κ (sh m c, k)) (by rw [← hg, rd_duties]; exact hi) (by rw [← hg, rd_amount]; exact h1) ι (debts c l)
    (by rw [← hg, ← h1])) $$ [HI HO Ht Hp Hr]
  · isplitl [HI]; · iexact HI
    isplitl [HO]; · iexact HO
    isplitl [Ht]; · iexact Ht
    isplitl [Hp]; · iexact Hp
    iexact Hr
  iintro HO
  iapply Hk
  iexists _
  iexact HO

/-! ## Waits -/

theorem step_wait_gen {α : Type} (c : Dev nD) (k : Cell) (r : ℕ) (ι : Bool) (l : List (Fin 4 × Cell × Bool))
    {w : TpuEff nD τ sig (Elt F) Λ₀ .tc PUnit} {sm : SemLoc sig} {n : ℕ} (hs : sm = semOf k)
    (hw : ∀ K : PUnit → sProp (MM F), wpE (defs₀ (F := F)) 𝒱₀ (c : Thread nD τ) none Set.univ w K = waitSpec (c : Thread nD τ) Set.univ sm n K)
    (hn : n = (dutiesOf k r).card * amountOf k) (hl : ∀ x ∈ l, level k ι < level x.2.1 x.2.2)
    {f : PUnit → Prog (TpuEff nD τ sig (Elt F) Λ₀ .tc) α} {Q : α → sProp (MM F)} :
    iprop(ctx X W κ ∗ cred (tallyAt (cell c k) ι n) ∗ debt c l ∗ atPos ER (cell c k) r ∅ 0)
      ⊢ iprop(((debt c l ∗ atPos ER (cell c k) (r + 1) ∅ 0 ∗ reached ER (cell c k) (r + 1)
              ∗ bigSep (dutiesOf k r) (fun i => payOf X W c k r i))
            -∗ wp frame (wpE (defs₀ (F := F)) 𝒱₀ (c : Thread nD τ) none) Set.univ (f ⟨⟩) Q)
          -∗ wp frame (wpE (defs₀ (F := F)) 𝒱₀ (c : Thread nD τ) none) Set.univ (.op w f) Q) := by
  subst hs
  have hpay : (bigSep ((rd X W).duties ((c : Thread nD τ), semOf k) r \ ∅) (fun i => (rd X W).payload ((c : Thread nD τ), semOf k) r i) : sProp (MM F))
      = bigSep (dutiesOf k r) (fun i => payOf X W c k r i) := by
    show bigSep ((rd X W).duties (cell c k) r \ ∅) (fun i => (rd X W).payload (cell c k) r i) = _
    rw [Finset.sdiff_empty, rd_duties]
    simp only [rd_payload]
  unfold debt
  iintro ⟨#HC, Hc, ⟨%Wd, HO⟩, Hat⟩ Hk
  ihave HI := (ctx_inv X W κ c k) $$ HC
  ihave #Hlev := (ctx_lev X W κ) $$ HC
  iapply (Rounds.wp_wait_rest_token 𝒱₀ ER (rd X W) (c : Thread nD τ) none (κ := κ (c, k)) hw (Set.mem_univ _) ι
    (O := debts c l) (W := Wd) (R := r) (m := 0) (T := ∅)
    ((Nat.zero_add n).trans (hn.trans (rd_expect X W c k r).symm))) $$ [HI Hc HO Hat]
  · isplitl [HI]; · iexact HI
    isplitl [Hc]; · iexact Hc
    isplitl [HO]; · iexact HO
    isplitr; · iapply (mayWait c k ι l hl); iexact Hlev
    iexact Hat
  iintro ⟨HO, Hat, Hr, Hp⟩
  iapply Hk
  isplitl [HO]; · iexists _; iexact HO
  isplitl [Hat]; · iexact Hat
  isplitl [Hr]; · iexact Hr
  iapply (Entails.of_eq hpay) $$ Hp

/-- A wait on a semaphore the device's neighbours signal. -/
theorem step_wait {α : Type} (c : Dev nD) (k : Cell) (r : ℕ) (ι : Bool) (l : List (Fin 4 × Cell × Bool)) {s : Sem sig} {n : ℕ}
    (hs : (SemLoc.reg s : SemLoc sig) = semOf k) (hn : n = (dutiesOf k r).card * amountOf k)
    (hl : ∀ x ∈ l, level k ι < level x.2.1 x.2.2)
    {f : PUnit → Prog (TpuEff nD τ sig (Elt F) Λ₀ .tc) α} {Q : α → sProp (MM F)} :
    iprop(ctx X W κ ∗ cred (tallyAt (cell c k) ι n) ∗ debt c l ∗ atPos ER (cell c k) r ∅ 0)
      ⊢ iprop(((debt c l ∗ atPos ER (cell c k) (r + 1) ∅ 0 ∗ reached ER (cell c k) (r + 1)
              ∗ bigSep (dutiesOf k r) (fun i => payOf X W c k r i))
            -∗ wp frame (wpE (defs₀ (F := F)) 𝒱₀ (c : Thread nD τ) none) Set.univ (f ⟨⟩) Q)
          -∗ wp frame (wpE (defs₀ (F := F)) 𝒱₀ (c : Thread nD τ) none) Set.univ (.op (.semWait s n) f) Q) :=
  step_wait_gen X W κ c k r ι l hs (wpE_semWait_eq 𝒱₀ (c : Thread nD τ) none Set.univ) hn hl

/-- A wait for a transfer: the one duty of the cell's round pays. -/
theorem step_wait_dma {α : Type} (c : Dev nD) (k : Cell) (l : List (Fin 4 × Cell × Bool)) {s : DmaSem sig}
    {sp sp' : Space} {sh₁ sh₂ : Shape} {e e' : EltTy} {src : Memref sig .tc sp' sh₂ e'} {dst : Memref sig .tc sp sh₁ e}
    {hsrc : src.view.WordExact} {hdst : dst.view.WordExact}
    (hs : (SemLoc.dma s : SemLoc sig) = semOf k) (hd : dutiesOf k 0 = {0}) (hn : dst.view.dmaCredit = amountOf k)
    (hl : ∀ x ∈ l, level k false < level x.2.1 x.2.2)
    {f : PUnit → Prog (TpuEff nD τ sig (Elt F) Λ₀ .tc) α} {Q : α → sProp (MM F)} :
    iprop(ctx X W κ ∗ cred (tallyAt (cell c k) false (amountOf k)) ∗ debt c l ∗ atPos ER (cell c k) 0 ∅ 0)
      ⊢ iprop(((debt c l ∗ atPos ER (cell c k) 1 ∅ 0 ∗ payOf X W c k 0 0)
            -∗ wp frame (wpE (defs₀ (F := F)) 𝒱₀ (c : Thread nD τ) none) Set.univ (f ⟨⟩) Q)
          -∗ wp frame (wpE (defs₀ (F := F)) 𝒱₀ (c : Thread nD τ) none) Set.univ (.op (.waitDma2 s src dst hsrc hdst) f) Q) := by
  have hpay : (bigSep (dutiesOf k 0) (fun i => payOf X W c k 0 i) : sProp (MM F)) = payOf X W c k 0 0 := by
    rw [hd, bigSep_singleton]
  iintro H Hk
  iapply (step_wait_gen X W κ c k 0 false l (n := amountOf k) hs
    (fun K => (wpE_waitDma2_eq 𝒱₀ (c : Thread nD τ) none Set.univ K).trans (by rw [hn]))
    (by rw [hd, Finset.card_singleton, Nat.one_mul]) hl) $$ H
  iintro ⟨HO, Hat, -, Hp⟩
  iapply Hk
  isplitl [HO]; · iexact HO
  isplitl [Hat]; · iexact Hat
  iapply (Entails.of_eq hpay) $$ Hp

/-! ## Transfers -/

/-- A transfer of the view `src`, lent at share `q`, into the view `dst` of the device at shift `m`, handing over `E`
    besides. -/
theorem step_send {α : Type} (c : Dev nD) (m : Fin 4) (ks kr : Cell) (l : List (Fin 4 × Cell × Bool))
    {s : Shape} (src dst : Memref sig .tc .vmem s .bf16) (q : PosShare TreeShare) (v : s.Idx → Elt F .bf16) (E : sProp (MM F))
    {n : Dev nD} {sS sR : DmaSem sig} {hsc : dst.view.ref.isScScratch = false}
    {hsrc : src.view.WordExact} {hdst : dst.view.WordExact}
    {hsem : DmaTarget.Typed .vmem (.dma sR) (.remote (Dev.tc (τ := τ) n) dst (.dma sS) hsc)}
    (hn : n = sh m c) (hsS : (SemLoc.dma sS : SemLoc sig) = semOf ks) (hsR : (SemLoc.dma sR : SemLoc sig) = semOf kr)
    (hds : (0 : Fin 3) ∈ dutiesOf ks 0) (hdr : (0 : Fin 3) ∈ dutiesOf kr 0)
    (hN : dst.view.dmaCredit = amountOf kr) (hN' : amountOf ks = amountOf kr)
    (hpS : holds src c q v ⊢ payOf X W c ks 0 0)
    (hpR : iprop(holds dst (sh m c) fullShare v ∗ E) ⊢ payOf X W (sh m c) kr 0 0)
    {f : PUnit → Prog (TpuEff nD τ sig (Elt F) Λ₀ .tc) α} {Q : α → sProp (MM F)} :
    iprop(ctx X W κ ∗ holds src c q v ∗ free dst (sh m c) ∗ E ∗ debt c ((m, kr, false) :: l)
        ∗ dutyTok ER (cell c ks) 0 0 ∗ reached ER (cell c ks) 0
        ∗ dutyTok ER (cell (sh m c) kr) 0 0 ∗ reached ER (cell (sh m c) kr) 0)
      ⊢ iprop(((cred (tallyAt (cell c ks) false (amountOf ks)) ∗ debt c l)
            -∗ wp frame (wpE (defs₀ (F := F)) 𝒱₀ (c : Thread nD τ) none) Set.univ (f ⟨⟩) Q)
          -∗ wp frame (wpE (defs₀ (F := F)) 𝒱₀ (c : Thread nD τ) none) Set.univ
              (.op (.enqueueDma src (.remote (Dev.tc n) dst (.dma sS) hsc) (.dma sR) hsrc hdst hsem) f) Q) := by
  subst hn
  unfold debt
  have hgS : cell c ks = ((c : Thread nD τ), SemLoc.dma sS) := by unfold cell; rw [hsS]
  have hgR : cell (sh m c) kr = ((sh m c : Thread nD τ), SemLoc.dma sR) := by unfold cell; rw [hsR]
  have hIS := ctx_inv X W κ c ks
  have hIR := ctx_inv X W κ (sh m c) kr
  rw [hgS] at hIS
  rw [hgR] at hIR
  rw [hN', hgS, hgR]
  unfold free
  iintro ⟨#HC, Hs, ⟨%fd, Hd⟩, HE, ⟨%Wd, HO⟩, HtS, HrS, HtR, HrR⟩ Hk
  ihave HIS := hIS $$ HC
  ihave HIR := hIR $$ HC
  iapply (Rounds.wp_send_pointsTo_with 𝒱₀ ER (rd X W) (c : Thread nD τ) none (c' := (sh m c : Thread nD τ)) (src := src) (dst := dst)
    (sS := .dma sS) (sem := .dma sR) (q := q) (fs := src.view.rep v) (fd := fd) (F := E) (κ₁ := κ (c, ks)) (κ₂ := κ (sh m c, kr))
    (r₁ := 0) (r₂ := 0) (d₁ := 0) (d₂ := 0)
    (by rw [← hgS, rd_duties]; exact hds) (by rw [← hgR, rd_duties]; exact hdr) false false (amountOf kr) hN
    (by rw [← hgS, rd_amount]; exact hN') (by rw [← hgR, rd_amount]) (debts c l) (by rw [← hgR]) (W := Wd)
    (by rw [← hgS, rd_payload]; exact hpS)
    (by
      rw [← hgR, rd_payload]
      refine (sep_mono_left (Entails.of_eq (holds_of_read dst (sh m c) fullShare v _ ?_))).trans hpR
      rw [View.read_write_univ, View.read_rep])) $$ [HIS HIR Hs Hd HE HO HtS HrS HtR HrR]
  · isplitl [HIS]; · iexact HIS
    isplitl [HIR]; · iexact HIR
    isplitl [Hs]; · unfold holds; iexact Hs
    isplitl [Hd HE]
    · isplitl [Hd]; · iexact Hd
      iexact HE
    isplitl [HO]; · iexact HO
    isplitl [HtS]; · iexact HtS
    isplitl [HrS]; · iexact HrS
    isplitl [HtR]; · iexact HtR
    iexact HrR
  iintro ⟨Hc, HO⟩
  iapply Hk
  isplitl [Hc]; · iexact Hc
  iexists _
  iexact HO

end Rules

/-! ## Loads and stores through a slot of a buffer -/

section Mem

variable {s : Shape} {e : EltTy}

/-- A load of a slot held at share `q` reads what it holds. -/
theorem step_load {α : Type} (c : Dev nD) (M : Memref sig .tc .vmem s e) (r : Rect s) (hr : ∀ a, r.stride a = 1) {s' : Shape}
    (hq : r.shape.Squeezes s') (hc : r.shape.ShapeCasts s') (q : PosShare TreeShare) (v : s'.Idx → Elt F e)
    {hl : M.view.LoadsAt r.toLoadRect} {f : (r.shape.Idx → Elt F e) → Prog (TpuEff nD τ sig (Elt F) Λ₀ .tc) α} {Q : α → sProp (MM F)} :
    holds ((M.slice r hr).squeeze s' hq) c q v
      ⊢ iprop((∀ u : r.shape.Idx → Elt F e, iprop(⌜shapeCast s' u hc = v⌝ -∗ holds ((M.slice r hr).squeeze s' hq) c q v
            -∗ wp frame (wpE (defs₀ (F := F)) 𝒱₀ (c : Thread nD τ) none) Set.univ (f u) Q))
          -∗ wp frame (wpE (defs₀ (F := F)) 𝒱₀ (c : Thread nD τ) none) Set.univ (.op (.load M r.toLoadRect hl) f) Q) := by
  unfold holds
  iintro H Hk
  iapply (wp_load (Ix := Bool) (Name := ℕ) (U := UU) (Lvl := ℕ) 𝒱₀ (c : Thread nD τ) none Set.univ (m := M) (r := r.toLoadRect) (S := ((M.slice r hr).squeeze s' hq).view.set) (q := q)
    (f := ((M.slice r hr).squeeze s' hq).view.rep v)
    (by rw [Memref.set_view_squeeze]; exact (View.set_slice M.view r).symm.subset)) $$ H
  iintro H
  iapply Hk $$ %(M.view.readAt (Elt F) r.toLoadRect (((M.slice r hr).squeeze s' hq).view.rep v)) %?_ H
  exact View.read_rep ((M.slice r hr).squeeze s' hq).view v

/-- A load of a slot whose contents do not matter. -/
theorem step_load_free {α : Type} (c : Dev nD) (M : Memref sig .tc .vmem s e) (r : Rect s) (hr : ∀ a, r.stride a = 1) {s' : Shape}
    (hq : r.shape.Squeezes s')
    {hl : M.view.LoadsAt r.toLoadRect} {f : (r.shape.Idx → Elt F e) → Prog (TpuEff nD τ sig (Elt F) Λ₀ .tc) α} {Q : α → sProp (MM F)} :
    free ((M.slice r hr).squeeze s' hq) c
      ⊢ iprop((∀ u : r.shape.Idx → Elt F e, iprop(free ((M.slice r hr).squeeze s' hq) c
            -∗ wp frame (wpE (defs₀ (F := F)) 𝒱₀ (c : Thread nD τ) none) Set.univ (f u) Q))
          -∗ wp frame (wpE (defs₀ (F := F)) 𝒱₀ (c : Thread nD τ) none) Set.univ (.op (.load M r.toLoadRect hl) f) Q) := by
  unfold free
  iintro ⟨%g, H⟩ Hk
  iapply (wp_load (Ix := Bool) (Name := ℕ) (U := UU) (Lvl := ℕ) 𝒱₀ (c : Thread nD τ) none Set.univ (m := M) (r := r.toLoadRect) (S := ((M.slice r hr).squeeze s' hq).view.set)
    (q := fullShare) (f := g)
    (by rw [Memref.set_view_squeeze]; exact (View.set_slice M.view r).symm.subset)) $$ H
  iintro H
  iapply Hk
  iexists g
  iexact H

/-- A store of a whole slot. -/
theorem step_store {α : Type} (c : Dev nD) (M : Memref sig .tc .vmem s e) (r : Rect s) (hr : ∀ a, r.stride a = 1) {s' : Shape}
    (hq : r.shape.Squeezes s') (hc : r.shape.ShapeCasts s') (w : r.shape.Idx → Elt F e) (v : s'.Idx → Elt F e)
    (hv : shapeCast s' w hc = v)
    {hx : (M.access r).Stores Finset.univ} {hm : Finset.univ = Finset.univ ∨ ∀ a, r.stride a = 1}
    {f : PUnit → Prog (TpuEff nD τ sig (Elt F) Λ₀ .tc) α} {Q : α → sProp (MM F)} :
    free ((M.slice r hr).squeeze s' hq) c
      ⊢ iprop((holds ((M.slice r hr).squeeze s' hq) c fullShare v
            -∗ wp frame (wpE (defs₀ (F := F)) 𝒱₀ (c : Thread nD τ) none) Set.univ (f ⟨⟩) Q)
          -∗ wp frame (wpE (defs₀ (F := F)) 𝒱₀ (c : Thread nD τ) none) Set.univ (.op (.store M r w Finset.univ hx hm) f) Q) := by
  unfold free
  iintro ⟨%g, H⟩ Hk
  iapply (wp_store (Ix := Bool) (Name := ℕ) (U := UU) (Lvl := ℕ) 𝒱₀ (c : Thread nD τ) none Set.univ (m := M) (r := r) (w := w) (Mk := Finset.univ) (hx := hx) (hm := hm) (k := f)
    (S := ((M.slice r hr).squeeze s' hq).view.set) (f := g)
    (by rw [Memref.set_view_squeeze]; exact subset_rfl)) $$ H
  iintro H
  iapply Hk
  iapply (Entails.of_eq (holds_of_read ((M.slice r hr).squeeze s' hq) c fullShare v
    ((M.access r).write (Elt F) g w Finset.univ) ?_)) $$ H
  show shapeCast s' ((M.access r).read (Elt F) ((M.access r).write (Elt F) g w Finset.univ)) hc = v
  rw [View.read_write_univ]
  exact hv

end Mem

end Cert.KernelIdealPf

end
-- ==== Proof.KernelIdealPf.Buffers.lean ====
/-
  The scratch buffers and the staged right block, taken apart into the slots that travel and put together again.
-/
module

public import proofs.«01_k».proof.Proof.KernelIdealPf.Steps
public import Idealize.ShloMosaic.Lib.Pipeline.Value

@[expose] public section

set_option maxRecDepth 16384

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## Two parts of a buffer -/

section Parts

variable {ℓ : Loc nD τ sig} {I J S : Finset (Idx ℓ)} {q : PosShare TreeShare}

theorem parts (hd : Disjoint I J) (hu : I ∪ J = S) (f : Buf (Elt F) ℓ) :
    (ℓ ↦[S]{q} f : sProp (MM F)) ⊣⊢ iprop((ℓ ↦[I]{q} f) ∗ ℓ ↦[J]{q} f) := by
  rw [← hu]
  exact pointsTo_union hd

theorem parts_join (hd : Disjoint I J) (hu : I ∪ J = S) :
    iprop((∃ f : Buf (Elt F) ℓ, ℓ ↦[I]{q} f) ∗ ∃ f : Buf (Elt F) ℓ, ℓ ↦[J]{q} f) ⊢ (iprop(∃ f : Buf (Elt F) ℓ, ℓ ↦[S]{q} f) : sProp (MM F)) := by
  rw [← hu]
  iintro ⟨⟨%f, Hf⟩, ⟨%g, Hg⟩⟩
  iexists _
  iapply (pointsTo_join hd) $$ [Hf Hg]
  isplitl [Hf]; · iexact Hf
  iexact Hg

end Parts

/-! ## The slots' elements -/

theorem mem_unit3 {n : Fin 3 → ℕ} (o z : Fin 3 → ℕ) (inb : ∀ a, o a + z a ≤ n a) (i : (⟨3, n⟩ : Shape).Idx) :
    i ∈ (Rect.unit (s := ⟨3, n⟩) o z inb).set ↔ (o 0 ≤ (i 0).val ∧ (i 0).val < o 0 + z 0) ∧ (o 1 ≤ (i 1).val ∧ (i 1).val < o 1 + z 1)
      ∧ (o 2 ≤ (i 2).val ∧ (i 2).val < o 2 + z 2) := by
  rw [Rect.mem_set_unit]
  constructor
  · intro h
    exact ⟨h 0, h 1, h 2⟩
  · intro h a
    match a with
    | 0 => exact h.1
    | 1 => exact h.2.1
    | 2 => exact h.2.2

theorem mem_unit2 {n : Fin 2 → ℕ} (o z : Fin 2 → ℕ) (inb : ∀ a, o a + z a ≤ n a) (i : (⟨2, n⟩ : Shape).Idx) :
    i ∈ (Rect.unit (s := ⟨2, n⟩) o z inb).set ↔ (o 0 ≤ (i 0).val ∧ (i 0).val < o 0 + z 0) ∧ (o 1 ≤ (i 1).val ∧ (i 1).val < o 1 + z 1) := by
  rw [Rect.mem_set_unit]
  constructor
  · intro h
    exact ⟨h 0, h 1⟩
  · intro h a
    match a with
    | 0 => exact h.1
    | 1 => exact h.2

theorem mem_slot (a0 a1 a2 b0 b1 b2 : ℕ) (inb) (i : S3x1024x512.Idx) :
    i ∈ (Rect.unit (s := S3x1024x512) ![a0, a1, a2] ![b0, b1, b2] inb).set ↔ (a0 ≤ (i 0).val ∧ (i 0).val < a0 + b0)
      ∧ (a1 ≤ (i 1).val ∧ (i 1).val < a1 + b1) ∧ (a2 ≤ (i 2).val ∧ (i 2).val < a2 + b2) :=
  mem_unit3 ![a0, a1, a2] ![b0, b1, b2] inb i

theorem mem_ring (a0 a1 a2 b0 b1 b2 : ℕ) (inb) (i : S2x4096x256.Idx) :
    i ∈ (Rect.unit (s := S2x4096x256) ![a0, a1, a2] ![b0, b1, b2] inb).set ↔ (a0 ≤ (i 0).val ∧ (i 0).val < a0 + b0)
      ∧ (a1 ≤ (i 1).val ∧ (i 1).val < a1 + b1) ∧ (a2 ≤ (i 2).val ∧ (i 2).val < a2 + b2) :=
  mem_unit3 ![a0, a1, a2] ![b0, b1, b2] inb i

theorem mem_half (a0 a1 b0 b1 : ℕ) (inb) (i : S4096x512.Idx) :
    i ∈ (Rect.unit (s := S4096x512) ![a0, a1] ![b0, b1] inb).set ↔ (a0 ≤ (i 0).val ∧ (i 0).val < a0 + b0)
      ∧ (a1 ≤ (i 1).val ∧ (i 1).val < a1 + b1) :=
  mem_unit2 ![a0, a1] ![b0, b1] inb i

/-- The rectangles of the tiles, the middle third also by halves. -/
abbrev rT0 : Rect S3x1024x512 := Rect.unit (s := S3x1024x512) ![0, 0, 0] S1x1024x256.size inb_S3x1024x512_S1x1024x256_0_0_0
abbrev rT1 : Rect S3x1024x512 := Rect.unit (s := S3x1024x512) ![0, 0, 256] S1x1024x256.size inb_S3x1024x512_S1x1024x256_0_0_256
abbrev rT2 : Rect S3x1024x512 := Rect.unit (s := S3x1024x512) ![1, 0, 0] S1x1024x512.size inb_S3x1024x512_S1x1024x512_1_0_0
abbrev rT2l : Rect S3x1024x512 := Rect.unit (s := S3x1024x512) ![1, 0, 0] S1x1024x256.size inb_S3x1024x512_S1x1024x256_1_0_0
abbrev rT2r : Rect S3x1024x512 := Rect.unit (s := S3x1024x512) ![1, 0, 256] S1x1024x256.size inb_S3x1024x512_S1x1024x256_1_0_256
abbrev rT3 : Rect S3x1024x512 := Rect.unit (s := S3x1024x512) ![2, 0, 0] S1x1024x256.size inb_S3x1024x512_S1x1024x256_2_0_0
abbrev rT4 : Rect S3x1024x512 := Rect.unit (s := S3x1024x512) ![2, 0, 256] S1x1024x256.size inb_S3x1024x512_S1x1024x256_2_0_256
abbrev rC0 : Rect S2x4096x256 := Rect.unit (s := S2x4096x256) ![0, 0, 0] S1x4096x256.size inb_S2x4096x256_S1x4096x256_0_0_0
abbrev rC1 : Rect S2x4096x256 := Rect.unit (s := S2x4096x256) ![1, 0, 0] S1x4096x256.size inb_S2x4096x256_S1x4096x256_1_0_0
abbrev rW0 : Rect S4096x512 := Rect.unit (s := S4096x512) ![0, 0] S4096x256.size inb_S4096x512_S4096x256_0_0
abbrev rW1 : Rect S4096x512 := Rect.unit (s := S4096x512) ![0, 256] S4096x256.size inb_S4096x512_S4096x256_0_256

theorem m0 (i : S3x1024x512.Idx) : i ∈ rT0.set ↔ (0 ≤ (i 0).val ∧ (i 0).val < 0 + 1) ∧ (0 ≤ (i 1).val ∧ (i 1).val < 0 + 1024) ∧ (0 ≤ (i 2).val ∧ (i 2).val < 0 + 256) := mem_slot 0 0 0 1 1024 256 _ i
theorem m1 (i : S3x1024x512.Idx) : i ∈ rT1.set ↔ (0 ≤ (i 0).val ∧ (i 0).val < 0 + 1) ∧ (0 ≤ (i 1).val ∧ (i 1).val < 0 + 1024) ∧ (256 ≤ (i 2).val ∧ (i 2).val < 256 + 256) := mem_slot 0 0 256 1 1024 256 _ i
theorem m2 (i : S3x1024x512.Idx) : i ∈ rT2.set ↔ (1 ≤ (i 0).val ∧ (i 0).val < 1 + 1) ∧ (0 ≤ (i 1).val ∧ (i 1).val < 0 + 1024) ∧ (0 ≤ (i 2).val ∧ (i 2).val < 0 + 512) := mem_slot 1 0 0 1 1024 512 _ i
theorem m2l (i : S3x1024x512.Idx) : i ∈ rT2l.set ↔ (1 ≤ (i 0).val ∧ (i 0).val < 1 + 1) ∧ (0 ≤ (i 1).val ∧ (i 1).val < 0 + 1024) ∧ (0 ≤ (i 2).val ∧ (i 2).val < 0 + 256) := mem_slot 1 0 0 1 1024 256 _ i
theorem m2r (i : S3x1024x512.Idx) : i ∈ rT2r.set ↔ (1 ≤ (i 0).val ∧ (i 0).val < 1 + 1) ∧ (0 ≤ (i 1).val ∧ (i 1).val < 0 + 1024) ∧ (256 ≤ (i 2).val ∧ (i 2).val < 256 + 256) := mem_slot 1 0 256 1 1024 256 _ i
theorem m3 (i : S3x1024x512.Idx) : i ∈ rT3.set ↔ (2 ≤ (i 0).val ∧ (i 0).val < 2 + 1) ∧ (0 ≤ (i 1).val ∧ (i 1).val < 0 + 1024) ∧ (0 ≤ (i 2).val ∧ (i 2).val < 0 + 256) := mem_slot 2 0 0 1 1024 256 _ i
theorem m4 (i : S3x1024x512.Idx) : i ∈ rT4.set ↔ (2 ≤ (i 0).val ∧ (i 0).val < 2 + 1) ∧ (0 ≤ (i 1).val ∧ (i 1).val < 0 + 1024) ∧ (256 ≤ (i 2).val ∧ (i 2).val < 256 + 256) := mem_slot 2 0 256 1 1024 256 _ i
theorem mc0 (i : S2x4096x256.Idx) : i ∈ rC0.set ↔ (0 ≤ (i 0).val ∧ (i 0).val < 0 + 1) ∧ (0 ≤ (i 1).val ∧ (i 1).val < 0 + 4096) ∧ (0 ≤ (i 2).val ∧ (i 2).val < 0 + 256) := mem_ring 0 0 0 1 4096 256 _ i
theorem mc1 (i : S2x4096x256.Idx) : i ∈ rC1.set ↔ (1 ≤ (i 0).val ∧ (i 0).val < 1 + 1) ∧ (0 ≤ (i 1).val ∧ (i 1).val < 0 + 4096) ∧ (0 ≤ (i 2).val ∧ (i 2).val < 0 + 256) := mem_ring 1 0 0 1 4096 256 _ i
theorem mw0 (i : S4096x512.Idx) : i ∈ rW0.set ↔ (0 ≤ (i 0).val ∧ (i 0).val < 0 + 4096) ∧ (0 ≤ (i 1).val ∧ (i 1).val < 0 + 256) := mem_half 0 0 4096 256 _ i
theorem mw1 (i : S4096x512.Idx) : i ∈ rW1.set ↔ (0 ≤ (i 0).val ∧ (i 0).val < 0 + 4096) ∧ (256 ≤ (i 1).val ∧ (i 1).val < 256 + 256) := mem_half 0 256 4096 256 _ i

theorem disj_01 : Disjoint rT0.set rT1.set := Finset.disjoint_left.2 fun i h h' => by
  rw [m0] at h; rw [m1] at h'; omega
theorem disj_2 : Disjoint rT2l.set rT2r.set := Finset.disjoint_left.2 fun i h h' => by
  rw [m2l] at h; rw [m2r] at h'; omega
theorem disj_34 : Disjoint rT3.set rT4.set := Finset.disjoint_left.2 fun i h h' => by
  rw [m3] at h; rw [m4] at h'; omega
theorem disj_234 : Disjoint rT2.set (rT3.set ∪ rT4.set) := Finset.disjoint_left.2 fun i h h' => by
  rw [Finset.mem_union, m3, m4] at h'; rw [m2] at h; omega
theorem disj_all : Disjoint (rT0.set ∪ rT1.set) (rT2.set ∪ (rT3.set ∪ rT4.set)) := Finset.disjoint_left.2 fun i h h' => by
  rw [Finset.mem_union, Finset.mem_union, m2, m3, m4] at h'; rw [Finset.mem_union, m0, m1] at h; omega
theorem cover_2 : rT2l.set ∪ rT2r.set = rT2.set := by
  ext i; rw [Finset.mem_union, m2l, m2r, m2]; omega
theorem cover_all : (rT0.set ∪ rT1.set) ∪ (rT2.set ∪ (rT3.set ∪ rT4.set)) = Finset.univ := by
  ext i
  simp only [Finset.mem_union, m0, m1, m2, m3, m4, Finset.mem_univ, iff_true]
  have h0 : (i 0).val < 3 := (i 0).isLt
  have h1 : (i 1).val < 1024 := (i 1).isLt
  have h2 : (i 2).val < 512 := (i 2).isLt
  omega
theorem disj_c : Disjoint rC0.set rC1.set := Finset.disjoint_left.2 fun i h h' => by
  rw [mc0] at h; rw [mc1] at h'; omega
theorem cover_c : rC0.set ∪ rC1.set = Finset.univ := by
  ext i
  simp only [Finset.mem_union, mc0, mc1, Finset.mem_univ, iff_true]
  have h0 : (i 0).val < 2 := (i 0).isLt
  have h1 : (i 1).val < 4096 := (i 1).isLt
  have h2 : (i 2).val < 256 := (i 2).isLt
  omega
theorem disj_w : Disjoint rW0.set rW1.set := Finset.disjoint_left.2 fun i h h' => by
  rw [mw0] at h; rw [mw1] at h'; omega
theorem cover_w : rW0.set ∪ rW1.set = Finset.univ := by
  ext i
  simp only [Finset.mem_union, mw0, mw1, Finset.mem_univ, iff_true]
  have h0 : (i 0).val < 4096 := (i 0).isLt
  have h1 : (i 1).val < 512 := (i 1).isLt
  omega

/-! ## Whole buffers -/

/-- Device `c` holds the whole buffer `b` at contents `f`. -/
def wholeAt (b : Ref sig .tc) (c : Dev nD) (f : Buf (Elt F) ((Memref.whole b).view.loc (c : Thread nD τ))) : sProp (MM F) :=
  (Memref.whole b).view.loc (c : Thread nD τ) ↦[Finset.univ]{fullShare} f

/-- Device `c` holds the whole buffer `b` at some contents. -/
def wholeFree (b : Ref sig .tc) (c : Dev nD) : sProp (MM F) :=
  iprop(∃ f : Buf (Elt F) ((Memref.whole b).view.loc (c : Thread nD τ)), wholeAt b c f)

theorem set_slot (b : Ref sig .tc) (r : Rect b.ty.shape) (hr : ∀ a, r.stride a = 1) {s' : Shape} (hq : r.shape.Squeezes s') :
    (((Memref.whole b).slice r hr).squeeze s' hq).view.set = r.set :=
  (Memref.set_view_squeeze _ _).trans (View.set_slice_whole b r)

/-- The right half of the middle third, and the left. -/
abbrev tile2l (M : Memref sig .tc .vmem S3x1024x512 .bf16) : Memref sig .tc .vmem S1024x256 .bf16 :=
  (M.slice rT2l (fun _ => rfl)).squeeze S1024x256 squeezes_S1x1024x256_S1024x256
abbrev tile2r (M : Memref sig .tc .vmem S3x1024x512 .bf16) : Memref sig .tc .vmem S1024x256 .bf16 :=
  (M.slice rT2r (fun _ => rfl)).squeeze S1024x256 squeezes_S1x1024x256_S1024x256

theorem ring_parts (b : Bool) (c : Dev nD) :
    (free (comm b 0) c ∗ free (comm b 1) c : sProp (MM F)) ⊢ wholeFree (match b with | true => cc0_scratch0 | false => cc0_scratch1) c := by
  cases b
  · have h0 := set_slot cc0_scratch1 rC0 (fun _ => rfl) squeezes_S1x4096x256_S4096x256
    have h1 := set_slot cc0_scratch1 rC1 (fun _ => rfl) squeezes_S1x4096x256_S4096x256
    unfold free wholeFree wholeAt
    rw [h0, h1]
    exact parts_join disj_c cover_c
  · have h0 := set_slot cc0_scratch0 rC0 (fun _ => rfl) squeezes_S1x4096x256_S4096x256
    have h1 := set_slot cc0_scratch0 rC1 (fun _ => rfl) squeezes_S1x4096x256_S4096x256
    unfold free wholeFree wholeAt
    rw [h0, h1]
    exact parts_join disj_c cover_c

theorem ring_split (b : Bool) (c : Dev nD) :
    wholeFree (match b with | true => cc0_scratch0 | false => cc0_scratch1) c ⊢ (free (comm b 0) c ∗ free (comm b 1) c : sProp (MM F)) := by
  cases b
  · have h0 := set_slot cc0_scratch1 rC0 (fun _ => rfl) squeezes_S1x4096x256_S4096x256
    have h1 := set_slot cc0_scratch1 rC1 (fun _ => rfl) squeezes_S1x4096x256_S4096x256
    unfold free wholeFree wholeAt
    rw [h0, h1]
    iintro ⟨%f, H⟩
    ihave H := (parts disj_c cover_c f).1 $$ H
    icases H with ⟨H0, H1⟩
    isplitl [H0]
    · iexists _; iexact H0
    iexists _; iexact H1
  · have h0 := set_slot cc0_scratch0 rC0 (fun _ => rfl) squeezes_S1x4096x256_S4096x256
    have h1 := set_slot cc0_scratch0 rC1 (fun _ => rfl) squeezes_S1x4096x256_S4096x256
    unfold free wholeFree wholeAt
    rw [h0, h1]
    iintro ⟨%f, H⟩
    ihave H := (parts disj_c cover_c f).1 $$ H
    icases H with ⟨H0, H1⟩
    isplitl [H0]
    · iexists _; iexact H0
    iexists _; iexact H1

theorem buf_parts (c : Dev nD) :
    (tileFree bufM c 0 ∗ tileFree bufM c 1 ∗ tileFree bufM c 2 ∗ tileFree bufM c 3 ∗ tileFree bufM c 4 : sProp (MM F)) ⊢ wholeFree cc0_scratch2 c := by
  have h0 := set_slot cc0_scratch2 rT0 (fun _ => rfl) squeezes_S1x1024x256_S1024x256
  have h1 := set_slot cc0_scratch2 rT1 (fun _ => rfl) squeezes_S1x1024x256_S1024x256
  have h2 := set_slot cc0_scratch2 rT2 (fun _ => rfl) squeezes_S1x1024x512_S1024x512
  have h3 := set_slot cc0_scratch2 rT3 (fun _ => rfl) squeezes_S1x1024x256_S1024x256
  have h4 := set_slot cc0_scratch2 rT4 (fun _ => rfl) squeezes_S1x1024x256_S1024x256
  show (free (tile0 bufM) c ∗ free (tile1 bufM) c ∗ free (tile2 bufM) c ∗ free (tile3 bufM) c ∗ free (tile4 bufM) c : sProp (MM F)) ⊢ wholeFree cc0_scratch2 c
  unfold free wholeFree wholeAt
  rw [h0, h1, h2, h3, h4]
  refine BIBase.Entails.trans ?_ (parts_join disj_all cover_all)
  iintro ⟨H0, H1, H2, H3, H4⟩
  isplitl [H0 H1]
  · iapply (parts_join disj_01 rfl)
    isplitl [H0]; · iexact H0
    iexact H1
  iapply (parts_join disj_234 rfl)
  isplitl [H2]; · iexact H2
  iapply (parts_join disj_34 rfl)
  isplitl [H3]; · iexact H3
  iexact H4

theorem buf_split (c : Dev nD) :
    wholeFree cc0_scratch2 c ⊢ (tileFree bufM c 0 ∗ tileFree bufM c 1 ∗ tileFree bufM c 2 ∗ tileFree bufM c 3 ∗ tileFree bufM c 4 : sProp (MM F)) := by
  have h0 := set_slot cc0_scratch2 rT0 (fun _ => rfl) squeezes_S1x1024x256_S1024x256
  have h1 := set_slot cc0_scratch2 rT1 (fun _ => rfl) squeezes_S1x1024x256_S1024x256
  have h2 := set_slot cc0_scratch2 rT2 (fun _ => rfl) squeezes_S1x1024x512_S1024x512
  have h3 := set_slot cc0_scratch2 rT3 (fun _ => rfl) squeezes_S1x1024x256_S1024x256
  have h4 := set_slot cc0_scratch2 rT4 (fun _ => rfl) squeezes_S1x1024x256_S1024x256
  show wholeFree cc0_scratch2 c ⊢ (free (tile0 bufM) c ∗ free (tile1 bufM) c ∗ free (tile2 bufM) c ∗ free (tile3 bufM) c ∗ free (tile4 bufM) c : sProp (MM F))
  unfold free wholeFree wholeAt
  rw [h0, h1, h2, h3, h4]
  iintro ⟨%f, H⟩
  ihave H := (parts disj_all cover_all f).1 $$ H
  icases H with ⟨H01, H⟩
  ihave H01 := (parts disj_01 rfl f).1 $$ H01
  icases H01 with ⟨H0, H1⟩
  ihave H := (parts disj_234 rfl f).1 $$ H
  icases H with ⟨H2, H⟩
  ihave H := (parts disj_34 rfl f).1 $$ H
  icases H with ⟨H3, H4⟩
  isplitl [H0]
  · iexists _; iexact H0
  isplitl [H1]
  · iexists _; iexact H1
  isplitl [H2]
  · iexists _; iexact H2
  isplitl [H3]
  · iexists _; iexact H3
  iexists _; iexact H4

theorem rx_parts (c : Dev nD) :
    (tileFree rxM c 0 ∗ tileFree rxM c 1 ∗ tileFree rxM c 2 ∗ tileFree rxM c 3 ∗ tileFree rxM c 4 : sProp (MM F)) ⊢ wholeFree cc0_scratch3 c := by
  have h0 := set_slot cc0_scratch3 rT0 (fun _ => rfl) squeezes_S1x1024x256_S1024x256
  have h1 := set_slot cc0_scratch3 rT1 (fun _ => rfl) squeezes_S1x1024x256_S1024x256
  have h2 := set_slot cc0_scratch3 rT2 (fun _ => rfl) squeezes_S1x1024x512_S1024x512
  have h3 := set_slot cc0_scratch3 rT3 (fun _ => rfl) squeezes_S1x1024x256_S1024x256
  have h4 := set_slot cc0_scratch3 rT4 (fun _ => rfl) squeezes_S1x1024x256_S1024x256
  show (free (tile0 rxM) c ∗ free (tile1 rxM) c ∗ free (tile2 rxM) c ∗ free (tile3 rxM) c ∗ free (tile4 rxM) c : sProp (MM F)) ⊢ wholeFree cc0_scratch3 c
  unfold free wholeFree wholeAt
  rw [h0, h1, h2, h3, h4]
  refine BIBase.Entails.trans ?_ (parts_join disj_all cover_all)
  iintro ⟨H0, H1, H2, H3, H4⟩
  isplitl [H0 H1]
  · iapply (parts_join disj_01 rfl)
    isplitl [H0]; · iexact H0
    iexact H1
  iapply (parts_join disj_234 rfl)
  isplitl [H2]; · iexact H2
  iapply (parts_join disj_34 rfl)
  isplitl [H3]; · iexact H3
  iexact H4

theorem rx_split (c : Dev nD) :
    wholeFree cc0_scratch3 c ⊢ (tileFree rxM c 0 ∗ tileFree rxM c 1 ∗ tileFree rxM c 2 ∗ tileFree rxM c 3 ∗ tileFree rxM c 4 : sProp (MM F)) := by
  have h0 := set_slot cc0_scratch3 rT0 (fun _ => rfl) squeezes_S1x1024x256_S1024x256
  have h1 := set_slot cc0_scratch3 rT1 (fun _ => rfl) squeezes_S1x1024x256_S1024x256
  have h2 := set_slot cc0_scratch3 rT2 (fun _ => rfl) squeezes_S1x1024x512_S1024x512
  have h3 := set_slot cc0_scratch3 rT3 (fun _ => rfl) squeezes_S1x1024x256_S1024x256
  have h4 := set_slot cc0_scratch3 rT4 (fun _ => rfl) squeezes_S1x1024x256_S1024x256
  show wholeFree cc0_scratch3 c ⊢ (free (tile0 rxM) c ∗ free (tile1 rxM) c ∗ free (tile2 rxM) c ∗ free (tile3 rxM) c ∗ free (tile4 rxM) c : sProp (MM F))
  unfold free wholeFree wholeAt
  rw [h0, h1, h2, h3, h4]
  iintro ⟨%f, H⟩
  ihave H := (parts disj_all cover_all f).1 $$ H
  icases H with ⟨H01, H⟩
  ihave H01 := (parts disj_01 rfl f).1 $$ H01
  icases H01 with ⟨H0, H1⟩
  ihave H := (parts disj_234 rfl f).1 $$ H
  icases H with ⟨H2, H⟩
  ihave H := (parts disj_34 rfl f).1 $$ H
  icases H with ⟨H3, H4⟩
  isplitl [H0]
  · iexists _; iexact H0
  isplitl [H1]
  · iexists _; iexact H1
  isplitl [H2]
  · iexists _; iexact H2
  isplitl [H3]
  · iexists _; iexact H3
  iexists _; iexact H4

/-- The middle tile by halves. -/
theorem mid_split (c : Dev nD) : tileFree bufM c 2 ⊢ (free (tile2l bufM) c ∗ free (tile2r bufM) c : sProp (MM F)) := by
  have h2 := set_slot cc0_scratch2 rT2 (fun _ => rfl) squeezes_S1x1024x512_S1024x512
  have hl := set_slot cc0_scratch2 rT2l (fun _ => rfl) squeezes_S1x1024x256_S1024x256
  have hr := set_slot cc0_scratch2 rT2r (fun _ => rfl) squeezes_S1x1024x256_S1024x256
  show free (tile2 bufM) c ⊢ (free (tile2l bufM) c ∗ free (tile2r bufM) c : sProp (MM F))
  unfold free
  rw [h2, hl, hr]
  iintro ⟨%f, H⟩
  ihave H := (parts disj_2 cover_2 f).1 $$ H
  icases H with ⟨H0, H1⟩
  isplitl [H0]
  · iexists _; iexact H0
  iexists _; iexact H1

theorem read_mid (M : Memref sig .tc .vmem S3x1024x512 .bf16) (f : M.view.ty.Contents (Elt F)) (i : S1024x512.Idx) :
    (tile2 M).view.read (Elt F) f i = M.view.read (Elt F) f (fun a => match a with | 0 => (1 : Fin 3) | 1 => i 0 | 2 => i 1) := by
  refine (shapeCast_dropUnit_apply (n := 2) ![1024, 512] (M.view.readAt (Elt F) rT2.toLoadRect f) _ i).trans ?_
  refine congrArg (M.view.read (Elt F) f) (funext fun a => Fin.ext ?_)
  match a with
  | 0 => rfl
  | 1 => exact (by show 0 + 1 * (i 0).val = (i 0).val; omega)
  | 2 => exact (by show 0 + 1 * (i 1).val = (i 1).val; omega)

theorem read_midl (M : Memref sig .tc .vmem S3x1024x512 .bf16) (f : M.view.ty.Contents (Elt F)) (i : S1024x256.Idx) :
    (tile2l M).view.read (Elt F) f i
      = M.view.read (Elt F) f (fun a => match a with
          | 0 => (1 : Fin 3) | 1 => i 0 | 2 => ⟨(i 1).val, Nat.lt_trans (i 1).isLt (by decide : 256 < 512)⟩) := by
  refine (shapeCast_dropUnit_apply (n := 2) ![1024, 256] (M.view.readAt (Elt F) rT2l.toLoadRect f) _ i).trans ?_
  refine congrArg (M.view.read (Elt F) f) (funext fun a => Fin.ext ?_)
  match a with
  | 0 => rfl
  | 1 => exact (by show 0 + 1 * (i 0).val = (i 0).val; omega)
  | 2 => exact (by show 0 + 1 * (i 1).val = (i 1).val; omega)

theorem read_midr (M : Memref sig .tc .vmem S3x1024x512 .bf16) (f : M.view.ty.Contents (Elt F)) (i : S1024x256.Idx) :
    (tile2r M).view.read (Elt F) f i
      = M.view.read (Elt F) f (fun a => match a with
          | 0 => (1 : Fin 3) | 1 => i 0
          | 2 => ⟨256 + (i 1).val, by have h : (i 1).val < 256 := (i 1).isLt; show 256 + (i 1).val < 512; omega⟩) := by
  refine (shapeCast_dropUnit_apply (n := 2) ![1024, 256] (M.view.readAt (Elt F) rT2r.toLoadRect f) _ i).trans ?_
  refine congrArg (M.view.read (Elt F) f) (funext fun a => Fin.ext ?_)
  match a with
  | 0 => rfl
  | 1 => exact (by show 0 + 1 * (i 0).val = (i 0).val; omega)
  | 2 => exact (by show 256 + 1 * (i 1).val = 256 + (i 1).val; omega)

/-- The two halves of the middle tile make the whole of it. -/
theorem mid_join (c : Dev nD) (l r : FVec F S1024x256 .bf16) :
    (holds (tile2l bufM) c fullShare l ∗ holds (tile2r bufM) c fullShare r : sProp (MM F)) ⊢ holds (tile2 bufM) c fullShare (beside l r) := by
  have h2 := set_slot cc0_scratch2 rT2 (fun _ => rfl) squeezes_S1x1024x512_S1024x512
  have hl := set_slot cc0_scratch2 rT2l (fun _ => rfl) squeezes_S1x1024x256_S1024x256
  have hr := set_slot cc0_scratch2 rT2r (fun _ => rfl) squeezes_S1x1024x256_S1024x256
  have hf : ∀ i, (tile2 bufM).view.read (Elt F) ((tile2 bufM).view.rep (beside l r)) i = beside l r i := fun i => by
    rw [View.read_rep]
  have el : (tile2l bufM).view.read (Elt F) ((tile2 bufM).view.rep (beside l r)) = l := by
    funext i
    have h1 : (i 1).val < 256 := (i 1).isLt
    rw [read_midl]
    refine Eq.trans ?_ ((hf (fun a => match a with | 0 => i 0 | 1 => ⟨(i 1).val, Nat.lt_trans (i 1).isLt (by decide : 256 < 512)⟩)).trans ?_)
    · rw [read_mid]
      exact congrArg _ (funext fun a => match a with | 0 => rfl | 1 => rfl | 2 => rfl)
    · unfold beside
      rw [dif_pos h1]
      exact congrArg l (funext fun a => match a with | 0 => rfl | 1 => rfl)
  have er : (tile2r bufM).view.read (Elt F) ((tile2 bufM).view.rep (beside l r)) = r := by
    funext i
    have h1 : (i 1).val < 256 := (i 1).isLt
    rw [read_midr]
    refine Eq.trans ?_ ((hf (fun a => match a with | 0 => i 0 | 1 => ⟨256 + (i 1).val, by show 256 + (i 1).val < 512; omega⟩)).trans ?_)
    · rw [read_mid]
      exact congrArg _ (funext fun a => match a with | 0 => rfl | 1 => rfl | 2 => rfl)
    · unfold beside
      rw [dif_neg (by show ¬ 256 + (i 1).val < 256; omega)]
      exact congrArg r (funext fun a => match a with
        | 0 => rfl
        | 1 => Fin.ext (by show 256 + (i 1).val - 256 = (i 1).val; omega))
  rw [← holds_of_read (tile2l bufM) c fullShare l ((tile2 bufM).view.rep (beside l r)) el,
    ← holds_of_read (tile2r bufM) c fullShare r ((tile2 bufM).view.rep (beside l r)) er]
  unfold holds
  rw [h2, hl, hr]
  exact (parts disj_2 cover_2 _).2

/-! ## The staged right block: half of it lent to the two first hops -/

theorem set_w0 : (wV true).view.set = rW0.set := View.set_slice_whole cc0_stg1_0 rW0
theorem set_w1 : (wV false).view.set = rW1.set := View.set_slice_whole cc0_stg1_0 rW1

/-- The block as the device reads it while its halves travel. -/
def wKept (W : Dev nD → FVec F S4096x512 .bf16) (c : Dev nD) : sProp (MM F) :=
  wM.view.loc (c : Thread nD τ) ↦[Finset.univ]{fullShare.left} (W c)

theorem w_split (W : Dev nD → FVec F S4096x512 .bf16) (c : Dev nD) :
    (wholeAt cc0_stg1_0 c (W c) : sProp (MM F))
      ⊣⊢ wKept W c ∗ holds (wV true) c fullShare.right (wHalf W c true) ∗ holds (wV false) c fullShare.right (wHalf W c false) := by
  rw [← holds_of_read (wV true) c fullShare.right (wHalf W c true) (W c) rfl,
    ← holds_of_read (wV false) c fullShare.right (wHalf W c false) (W c) rfl, set_w0, set_w1]
  unfold wholeAt wKept
  have h1 := pointsTo_share (Val := Elt F) (Ix := Bool) (Name := ℕ) (U := UU) (Lvl := ℕ) (ℓ := wM.view.loc (c : Thread nD τ)) (I := Finset.univ) (f := (W c : Buf (Elt F) (wM.view.loc (c : Thread nD τ))))
    (PosShare.mem_left_op_right fullShare)
  have h2 := parts (ℓ := wM.view.loc (c : Thread nD τ)) (q := fullShare.right) (S := Finset.univ) disj_w cover_w (W c)
  exact ⟨h1.1.trans (sep_mono_right h2.1), (sep_mono_right h2.2).trans h1.2⟩

end Cert.KernelIdealPf

end
-- ==== Proof.KernelIdealPf.Moves.lean ====
/-
  The device's accesses to its staged blocks, the values it computes, and what each hand-over carries, spelt out.
-/
module

public import proofs.«01_k».proof.Proof.KernelIdealPf.Buffers

@[expose] public section

set_option maxRecDepth 16384

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The addressed devices -/

theorem dev1 : ∀ c : Dev nD, (⟨k0_dev1 c, k0_dev1_lt c⟩ : Dev nD) = sh 3 c := by decide +kernel
theorem dev2 : ∀ c : Dev nD, (⟨k0_dev2 c, k0_dev2_lt c⟩ : Dev nD) = sh 1 c := by decide +kernel
theorem dev3 : ∀ c : Dev nD, (⟨k0_dev3 c, k0_dev3_lt c⟩ : Dev nD) = sh 2 c := by decide +kernel
theorem dev4 : ∀ c : Dev nD, (⟨k0_dev4 c, k0_dev4_lt c⟩ : Dev nD) = sh 1 c := by decide +kernel
theorem dev5 : ∀ c : Dev nD, (⟨k0_dev5 c, k0_dev5_lt c⟩ : Dev nD) = sh 3 c := by decide +kernel
theorem dev6 : ∀ c : Dev nD, (⟨k0_dev6 c, k0_dev6_lt c⟩ : Dev nD) = sh 3 c := by decide +kernel
theorem dev7 : ∀ c : Dev nD, (⟨k0_dev7 c, k0_dev7_lt c⟩ : Dev nD) = sh 1 c := by decide +kernel
theorem dev8 : ∀ c : Dev nD, (⟨k0_dev8 c, k0_dev8_lt c⟩ : Dev nD) = sh 1 c := by decide +kernel
theorem dev9 : ∀ c : Dev nD, (⟨k0_dev9 c, k0_dev9_lt c⟩ : Dev nD) = sh 3 c := by decide +kernel
theorem dev10 : ∀ c : Dev nD, (⟨k0_dev10 c, k0_dev10_lt c⟩ : Dev nD) = sh 3 c := by decide +kernel
theorem dev11 : ∀ c : Dev nD, (⟨k0_dev11 c, k0_dev11_lt c⟩ : Dev nD) = sh 1 c := by decide +kernel
theorem dev12 : ∀ c : Dev nD, (⟨k0_dev12 c, k0_dev12_lt c⟩ : Dev nD) = sh 3 c := by decide +kernel
theorem dev13 : ∀ c : Dev nD, (⟨k0_dev13 c, k0_dev13_lt c⟩ : Dev nD) = sh 1 c := by decide +kernel
theorem dev14 : ∀ c : Dev nD, (⟨k0_dev14 c, k0_dev14_lt c⟩ : Dev nD) = sh 1 c := by decide +kernel
theorem dev15 : ∀ c : Dev nD, (⟨k0_dev15 c, k0_dev15_lt c⟩ : Dev nD) = sh 3 c := by decide +kernel
theorem dev16 : ∀ c : Dev nD, (⟨k0_dev16 c, k0_dev16_lt c⟩ : Dev nD) = sh 2 c := by decide +kernel
theorem dev17 : ∀ c : Dev nD, (⟨k0_dev17 c, k0_dev17_lt c⟩ : Dev nD) = sh 1 c := by decide +kernel
theorem dev18 : ∀ c : Dev nD, (⟨k0_dev18 c, k0_dev18_lt c⟩ : Dev nD) = sh 3 c := by decide +kernel

/-! ## The row blocks stored to -/

theorem off1 : ∀ c : Dev nD, k0_off1 c = ![1024 * (sh 0 c).val, 0] := by decide +kernel
theorem off2 : ∀ c : Dev nD, k0_off2 c = ![1024 * (sh 1 c).val, 0] := by decide +kernel
theorem off3 : ∀ c : Dev nD, k0_off3 c = ![1024 * (sh 3 c).val, 256] := by decide +kernel
theorem off4 : ∀ c : Dev nD, k0_off4 c = ![1024 * (sh 2 c).val, 0] := by decide +kernel
theorem off5 : ∀ c : Dev nD, k0_off5 c = ![1024 * (sh 3 c).val, 0] := by decide +kernel
theorem off6 : ∀ c : Dev nD, k0_off6 c = ![1024 * (sh 1 c).val, 256] := by decide +kernel

/-! ## The staged blocks -/

abbrev xM : Memref sig .tc .vmem S1024x4096 .bf16 := Memref.whole cc0_stg0_0
abbrev oM : Memref sig .tc .vmem S4096x512 .f32 := Memref.whole cc0_stg2_0

theorem zero2 : (![0, 0] : Fin 2 → ℕ) = fun _ => 0 := by decide

section Mem

variable (X : Dev nD → FVec F S1024x4096 .bf16) (W : Dev nD → FVec F S4096x512 .bf16)

/-- The device's row block, as staged. -/
def xAt (c : Dev nD) : sProp (MM F) := xM.view.loc (c : Thread nD τ) ↦[Finset.univ]{fullShare} (X c)

/-- The device's result block, with the stores `P` on top of the contents `g`. -/
def oAt (c : Dev nD) (g : FVec F S4096x512 .f32) (P : List (View.Piece (Elt F) S4096x512 .f32)) : sProp (MM F) :=
  oM.view.loc (c : Thread nD τ) ↦[Finset.univ]{fullShare} (oM.view.writes (Elt F) g P)

theorem load_x {α : Type} (c : Dev nD) {hl : xM.view.LoadsAt (Rect.unit (s := S1024x4096) ![0, 0] S1024x4096.size inb_S1024x4096_S1024x4096_0_0).toLoadRect}
    {f : (S1024x4096.Idx → Elt F .bf16) → Prog (TpuEff nD τ sig (Elt F) Λ₀ .tc) α} {Q : α → sProp (MM F)} :
    xAt X c ⊢ iprop((xAt X c -∗ wp frame (wpE (defs₀ (F := F)) 𝒱₀ (c : Thread nD τ) none) Set.univ (f (X c)) Q)
      -∗ wp frame (wpE (defs₀ (F := F)) 𝒱₀ (c : Thread nD τ) none) Set.univ
          (.op (.load xM (Rect.unit (s := S1024x4096) ![0, 0] S1024x4096.size inb_S1024x4096_S1024x4096_0_0).toLoadRect hl) f) Q) := by
  have h := wp_load (Val := Elt F) (Ix := Bool) (Name := ℕ) (U := UU) (Lvl := ℕ) (defs := defs₀ (F := F)) 𝒱₀ (c : Thread nD τ) none (Γ := .empty) Set.univ (Q := Q) (m := xM)
    (r := (Rect.unit (s := S1024x4096) ![0, 0] S1024x4096.size inb_S1024x4096_S1024x4096_0_0).toLoadRect) (hl := hl) (k := f)
    (S := Finset.univ) (q := fullShare) (f := X c) (Finset.subset_univ _)
  have e : xM.view.readAt (Elt F) (Rect.unit (s := S1024x4096) ![0, 0] S1024x4096.size inb_S1024x4096_S1024x4096_0_0).toLoadRect (X c) = X c :=
    Memref.readAt_unit_zero (Elt F) cc0_stg0_0 zero2 inb_S1024x4096_S1024x4096_0_0 (X c)
  rw [e] at h
  exact h

theorem load_w {α : Type} (c : Dev nD) {hl : wM.view.LoadsAt (Rect.unit (s := S4096x512) ![0, 0] S4096x512.size inb_S4096x512_S4096x512_0_0).toLoadRect}
    {f : (S4096x512.Idx → Elt F .bf16) → Prog (TpuEff nD τ sig (Elt F) Λ₀ .tc) α} {Q : α → sProp (MM F)} :
    wKept W c ⊢ iprop((wKept W c -∗ wp frame (wpE (defs₀ (F := F)) 𝒱₀ (c : Thread nD τ) none) Set.univ (f (W c)) Q)
      -∗ wp frame (wpE (defs₀ (F := F)) 𝒱₀ (c : Thread nD τ) none) Set.univ
          (.op (.load wM (Rect.unit (s := S4096x512) ![0, 0] S4096x512.size inb_S4096x512_S4096x512_0_0).toLoadRect hl) f) Q) := by
  have h := wp_load (Val := Elt F) (Ix := Bool) (Name := ℕ) (U := UU) (Lvl := ℕ) (defs := defs₀ (F := F)) 𝒱₀ (c : Thread nD τ) none (Γ := .empty) Set.univ (Q := Q) (m := wM)
    (r := (Rect.unit (s := S4096x512) ![0, 0] S4096x512.size inb_S4096x512_S4096x512_0_0).toLoadRect) (hl := hl) (k := f)
    (S := Finset.univ) (q := fullShare.left) (f := W c) (Finset.subset_univ _)
  have e : wM.view.readAt (Elt F) (Rect.unit (s := S4096x512) ![0, 0] S4096x512.size inb_S4096x512_S4096x512_0_0).toLoadRect (W c) = W c :=
    Memref.readAt_unit_zero (Elt F) cc0_stg1_0 zero2 inb_S4096x512_S4096x512_0_0 (W c)
  rw [e] at h
  exact h

theorem load_o {α : Type} (c : Dev nD) (g : FVec F S4096x512 .f32) (P : List (View.Piece (Elt F) S4096x512 .f32)) {r : LoadRect S4096x512}
    {hl : oM.view.LoadsAt r} {f : (r.shape.Idx → Elt F .f32) → Prog (TpuEff nD τ sig (Elt F) Λ₀ .tc) α} {Q : α → sProp (MM F)} :
    oAt c g P ⊢ iprop((∀ u : r.shape.Idx → Elt F .f32, iprop(oAt c g P
          -∗ wp frame (wpE (defs₀ (F := F)) 𝒱₀ (c : Thread nD τ) none) Set.univ (f u) Q))
      -∗ wp frame (wpE (defs₀ (F := F)) 𝒱₀ (c : Thread nD τ) none) Set.univ (.op (.load oM r hl) f) Q) := by
  unfold oAt
  iintro H Hk
  iapply (wp_load (Ix := Bool) (Name := ℕ) (U := UU) (Lvl := ℕ) 𝒱₀ (c : Thread nD τ) none Set.univ (m := oM) (r := r)
    (S := Finset.univ) (q := fullShare) (f := oM.view.writes (Elt F) g P) (Finset.subset_univ _)) $$ H
  iintro H
  iapply Hk
  iexact H

theorem store_o {α : Type} (c : Dev nD) (g : FVec F S4096x512 .f32) (P : List (View.Piece (Elt F) S4096x512 .f32)) (r : Rect S4096x512)
    (w w' : r.shape.Idx → Elt F .f32) (hw : w = w')
    {hx : (oM.access r).Stores Finset.univ} {hm : Finset.univ = Finset.univ ∨ ∀ a, r.stride a = 1}
    {f : PUnit → Prog (TpuEff nD τ sig (Elt F) Λ₀ .tc) α} {Q : α → sProp (MM F)} :
    oAt c g P ⊢ iprop((oAt c g (⟨r, w'⟩ :: P) -∗ wp frame (wpE (defs₀ (F := F)) 𝒱₀ (c : Thread nD τ) none) Set.univ (f ⟨⟩) Q)
      -∗ wp frame (wpE (defs₀ (F := F)) 𝒱₀ (c : Thread nD τ) none) Set.univ (.op (.store oM r w Finset.univ hx hm) f) Q) := by
  subst hw
  exact wp_store_writes (Ix := Bool) (Name := ℕ) (U := UU) (Lvl := ℕ) 𝒱₀ (c : Thread nD τ) none Set.univ (m := oM) (r := r) (w := w)
    (S := Finset.univ) (f := g) (L := P) (Finset.subset_univ _)

end Mem

/-! ## The values computed -/

section Values

theorem pay2_eq (x : FVec F S1024x4096 .bf16) (u : FVec F S1x4096x256 .bf16) (w : FVec F S4096x256 .bf16)
    (h : shapeCast S4096x256 u shapeCasts_S1x4096x256_S4096x256 = w) : shapeCast S1024x256 (k0_pay2 x u) shapeCasts_S1x1024x256_S1024x256 = prod x w := by
  subst h
  unfold k0_pay2 prod
  rw [shapeCast_shapeCast, shapeCast_self]

theorem pay5_eq (x : FVec F S1024x4096 .bf16) (u : FVec F S1x4096x256 .bf16) (w : FVec F S4096x256 .bf16)
    (h : shapeCast S4096x256 u shapeCasts_S1x4096x256_S4096x256 = w) : shapeCast S1024x256 (k0_pay5 x u) shapeCasts_S1x1024x256_S1024x256 = prod x w := by
  subst h
  unfold k0_pay5 prod
  rw [shapeCast_shapeCast, shapeCast_self]

theorem pay8_eq (x : FVec F S1024x4096 .bf16) (u : FVec F S1x4096x256 .bf16) (w : FVec F S4096x256 .bf16)
    (h : shapeCast S4096x256 u shapeCasts_S1x4096x256_S4096x256 = w) : shapeCast S1024x256 (k0_pay8 x u) shapeCasts_S1x1024x256_S1024x256 = prod x w := by
  subst h
  unfold k0_pay8 prod
  rw [shapeCast_shapeCast, shapeCast_self]

theorem pay9_eq (x : FVec F S1024x4096 .bf16) (u : FVec F S1x4096x256 .bf16) (w : FVec F S4096x256 .bf16)
    (h : shapeCast S4096x256 u shapeCasts_S1x4096x256_S4096x256 = w) : shapeCast S1024x256 (k0_pay9 x u) shapeCasts_S1x1024x256_S1024x256 = prod x w := by
  subst h
  unfold k0_pay9 prod
  rw [shapeCast_shapeCast, shapeCast_self]

theorem pay3_eq (x : FVec F S1024x4096 .bf16) (u : FVec F S1x4096x256 .bf16) (w : FVec F S4096x256 .bf16)
    (h : shapeCast S4096x256 u shapeCasts_S1x4096x256_S4096x256 = w) : k0_pay3 x u = prod x w := by
  subst h
  unfold k0_pay3 prod
  rw [shapeCast_self]

theorem pay4_eq (v : FVec F S1024x256 .bf16) : shapeCast S1024x256 (k0_pay4 v) shapeCasts_S1x1024x256_S1024x256 = v := by
  unfold k0_pay4
  rw [shapeCast_shapeCast]

theorem pay6_eq (x : FVec F S1024x4096 .bf16) : k0_pay6 x = x := by
  unfold k0_pay6
  rw [shapeCast_self]

theorem pay7_eq (x : FVec F S1024x4096 .bf16) (u : FVec F S1x4096x256 .bf16) (w : FVec F S4096x256 .bf16)
    (h : shapeCast S4096x256 u shapeCasts_S1x4096x256_S4096x256 = w) : shapeCast S1024x256 (k0_pay7 x u) shapeCasts_S1x1024x256_S1024x256 = prod x w := by
  subst h
  unfold k0_pay7 prod
  rw [shapeCast_shapeCast]

theorem pay10_eq (u : FVec F S1x1024x256 .bf16) (v : FVec F S1024x256 .bf16)
    (h : shapeCast S1024x256 u shapeCasts_S1x1024x256_S1024x256 = v) : k0_pay10 u = extf .f32 v bitsLt_bf16_f32 := by
  subst h
  rfl

theorem pay11_eq (u : FVec F S1x1024x256 .bf16) (v : FVec F S1024x256 .bf16)
    (h : shapeCast S1024x256 u shapeCasts_S1x1024x256_S1024x256 = v) : k0_pay11 u = extf .f32 v bitsLt_bf16_f32 := by
  subst h
  rfl

theorem pay13_eq (u : FVec F S1x1024x256 .bf16) (v : FVec F S1024x256 .bf16)
    (h : shapeCast S1024x256 u shapeCasts_S1x1024x256_S1024x256 = v) : k0_pay13 u = extf .f32 v bitsLt_bf16_f32 := by
  subst h
  rfl

theorem pay14_eq (u : FVec F S1x1024x256 .bf16) (v : FVec F S1024x256 .bf16)
    (h : shapeCast S1024x256 u shapeCasts_S1x1024x256_S1024x256 = v) : k0_pay14 u = extf .f32 v bitsLt_bf16_f32 := by
  subst h
  rfl

theorem pay12_eq (u : FVec F S1x1024x512 .bf16) (v : FVec F S1024x512 .bf16)
    (h : shapeCast S1024x512 u shapeCasts_S1x1024x512_S1024x512 = v) : k0_pay12 u = extf .f32 v bitsLt_bf16_f32 := by
  subst h
  rfl

end Values

/-! ## The stores into the result block -/

section Pieces

variable (X : Dev nD → FVec F S1024x4096 .bf16) (W : Dev nD → FVec F S4096x512 .bf16)

abbrev pc1 (c : Dev nD) : View.Piece (Elt F) S4096x512 .f32 :=
  ⟨Rect.unit (s := S4096x512) (k0_off1 c) S1024x512.size (k0_off1_inb c), k0_pay1 (X c) (W c)⟩
abbrev pc2 (c : Dev nD) : View.Piece (Elt F) S4096x512 .f32 :=
  ⟨Rect.unit (s := S4096x512) (k0_off2 c) S1024x256.size (k0_off2_inb c), extf .f32 (tileOf X W (sh 1 c) c true) bitsLt_bf16_f32⟩
abbrev pc3 (c : Dev nD) : View.Piece (Elt F) S4096x512 .f32 :=
  ⟨Rect.unit (s := S4096x512) (k0_off3 c) S1024x256.size (k0_off3_inb c), extf .f32 (tileOf X W (sh 3 c) c false) bitsLt_bf16_f32⟩
abbrev pc5 (c : Dev nD) : View.Piece (Elt F) S4096x512 .f32 :=
  ⟨Rect.unit (s := S4096x512) (k0_off5 c) S1024x256.size (k0_off5_inb c), extf .f32 (tileOf X W (sh 3 c) c true) bitsLt_bf16_f32⟩
abbrev pc6 (c : Dev nD) : View.Piece (Elt F) S4096x512 .f32 :=
  ⟨Rect.unit (s := S4096x512) (k0_off6 c) S1024x256.size (k0_off6_inb c), extf .f32 (tileOf X W (sh 1 c) c false) bitsLt_bf16_f32⟩
abbrev pc4 (c : Dev nD) : View.Piece (Elt F) S4096x512 .f32 :=
  ⟨Rect.unit (s := S4096x512) (k0_off4 c) S1024x512.size (k0_off4_inb c),
    extf .f32 (beside (tileOf X W (sh 2 c) c true) (tileOf X W (sh 2 c) c false)) bitsLt_bf16_f32⟩

end Pieces

/-! ## What is handed over -/

section Pays

variable (X : Dev nD → FVec F S1024x4096 .bf16) (W : Dev nD → FVec F S4096x512 .bf16) (c : Dev nD)

theorem pay_bar0 : (ready c ∗ free (comm true 1) c ∗ free (tile1 rxM) c ∗ free (tile3 rxM) c : sProp (MM F)) ⊢ payOf X W (sh 3 c) .bar 0 0 := by
  have e : sh (barFrom 0) (sh 3 c) = c := sh_1_3 c
  show _ ⊢ barPay (sh (barFrom 0) (sh 3 c)) 0
  rw [e]
  exact .rfl

theorem pay_bar1 : (ready c ∗ free (comm false 1) c ∗ free (tile0 rxM) c ∗ free (tile4 rxM) c : sProp (MM F)) ⊢ payOf X W (sh 1 c) .bar 0 1 := by
  have e : sh (barFrom 1) (sh 1 c) = c := sh_3_1 c
  show _ ⊢ barPay (sh (barFrom 1) (sh 1 c)) 1
  rw [e]
  exact .rfl

theorem pay_bar2 : (ready c ∗ free (tile2 rxM) c : sProp (MM F)) ⊢ payOf X W (sh 2 c) .bar 0 2 := by
  have e : sh (barFrom 2) (sh 2 c) = c := sh_2_2 c
  show _ ⊢ barPay (sh (barFrom 2) (sh 2 c)) 2
  rw [e]
  exact .rfl

theorem pay_cr_true0 : (free (comm true 0) c : sProp (MM F)) ⊢ payOf X W (sh 3 c) (.cr true) 0 0 := by
  have e : sh (ringTo true) (sh 3 c) = c := sh_1_3 c
  show _ ⊢ crPay (sh 3 c) true 0
  show _ ⊢ free (comm true 0) (sh (ringTo true) (sh 3 c))
  rw [e]

theorem pay_cr_true1 : (free (comm true 1) c : sProp (MM F)) ⊢ payOf X W (sh 3 c) (.cr true) 1 0 := by
  have e : sh (ringTo true) (sh 3 c) = c := sh_1_3 c
  show _ ⊢ crPay (sh 3 c) true 1
  show _ ⊢ free (comm true 1) (sh (ringTo true) (sh 3 c))
  rw [e]

theorem pay_cr_false0 : (free (comm false 0) c : sProp (MM F)) ⊢ payOf X W (sh 1 c) (.cr false) 0 0 := by
  have e : sh (ringTo false) (sh 1 c) = c := sh_3_1 c
  show _ ⊢ crPay (sh 1 c) false 0
  show _ ⊢ free (comm false 0) (sh (ringTo false) (sh 1 c))
  rw [e]

theorem pay_cr_false1 : (free (comm false 1) c : sProp (MM F)) ⊢ payOf X W (sh 1 c) (.cr false) 1 0 := by
  have e : sh (ringTo false) (sh 1 c) = c := sh_3_1 c
  show _ ⊢ crPay (sh 1 c) false 1
  show _ ⊢ free (comm false 1) (sh (ringTo false) (sh 1 c))
  rw [e]

theorem pay_rr_true0 : iprop(holds (comm true 1) (sh 1 c) fullShare (wHalf W c true) ∗ emp) ⊢ payOf X W (sh 1 c) (.rr true 0) 0 0 := by
  have e : sh (hopFrom true 0) (sh 1 c) = c := sh_3_1 c
  have e' : sh (ringFrom true) (sh 1 c) = c := sh_3_1 c
  show _ ⊢ iprop(holds (comm true 1) (sh 1 c) fullShare (wHalf W (sh (hopFrom true 0) (sh 1 c)) true) ∗ hopExtra (sh 1 c) true 0)
  rw [e]
  exact .rfl

theorem got_rr_true0 : (payOf X W c (.rr true 0) 0 0 : sProp (MM F))
    ⊢ iprop(holds (comm true 1) c fullShare (wHalf W (sh 3 c) true) ∗ emp) := .rfl

theorem pay_rr_true1 : iprop(holds (comm true 0) (sh 1 c) fullShare (wHalf W (sh 3 c) true) ∗ reached ER (cell c (.cr true)) 1) ⊢ payOf X W (sh 1 c) (.rr true 1) 0 0 := by
  have e : sh (hopFrom true 1) (sh 1 c) = (sh 3 c) := sh_2_1 c
  have e' : sh (ringFrom true) (sh 1 c) = c := sh_3_1 c
  show _ ⊢ iprop(holds (comm true 0) (sh 1 c) fullShare (wHalf W (sh (hopFrom true 1) (sh 1 c)) true) ∗ hopExtra (sh 1 c) true 1)
  rw [e]
  show _ ⊢ iprop(_ ∗ reached ER (cell (sh (ringFrom true) (sh 1 c)) (.cr true)) 1)
  rw [e']

theorem got_rr_true1 : (payOf X W c (.rr true 1) 0 0 : sProp (MM F))
    ⊢ iprop(holds (comm true 0) c fullShare (wHalf W (sh 2 c) true) ∗ reached ER (cell (sh 3 c) (.cr true)) 1) := .rfl

theorem pay_rr_true2 : iprop(holds (comm true 1) (sh 1 c) fullShare (wHalf W (sh 2 c) true) ∗ emp) ⊢ payOf X W (sh 1 c) (.rr true 2) 0 0 := by
  have e : sh (hopFrom true 2) (sh 1 c) = (sh 2 c) := sh_1_1 c
  have e' : sh (ringFrom true) (sh 1 c) = c := sh_3_1 c
  show _ ⊢ iprop(holds (comm true 1) (sh 1 c) fullShare (wHalf W (sh (hopFrom true 2) (sh 1 c)) true) ∗ hopExtra (sh 1 c) true 2)
  rw [e]
  exact .rfl

theorem got_rr_true2 : (payOf X W c (.rr true 2) 0 0 : sProp (MM F))
    ⊢ iprop(holds (comm true 1) c fullShare (wHalf W (sh 1 c) true) ∗ emp) := .rfl

theorem pay_rr_false0 : iprop(holds (comm false 1) (sh 3 c) fullShare (wHalf W c false) ∗ emp) ⊢ payOf X W (sh 3 c) (.rr false 0) 0 0 := by
  have e : sh (hopFrom false 0) (sh 3 c) = c := sh_1_3 c
  have e' : sh (ringFrom false) (sh 3 c) = c := sh_1_3 c
  show _ ⊢ iprop(holds (comm false 1) (sh 3 c) fullShare (wHalf W (sh (hopFrom false 0) (sh 3 c)) false) ∗ hopExtra (sh 3 c) false 0)
  rw [e]
  exact .rfl

theorem got_rr_false0 : (payOf X W c (.rr false 0) 0 0 : sProp (MM F))
    ⊢ iprop(holds (comm false 1) c fullShare (wHalf W (sh 1 c) false) ∗ emp) := .rfl

theorem pay_rr_false1 : iprop(holds (comm false 0) (sh 3 c) fullShare (wHalf W (sh 1 c) false) ∗ reached ER (cell c (.cr false)) 1) ⊢ payOf X W (sh 3 c) (.rr false 1) 0 0 := by
  have e : sh (hopFrom false 1) (sh 3 c) = (sh 1 c) := sh_2_3 c
  have e' : sh (ringFrom false) (sh 3 c) = c := sh_1_3 c
  show _ ⊢ iprop(holds (comm false 0) (sh 3 c) fullShare (wHalf W (sh (hopFrom false 1) (sh 3 c)) false) ∗ hopExtra (sh 3 c) false 1)
  rw [e]
  show _ ⊢ iprop(_ ∗ reached ER (cell (sh (ringFrom false) (sh 3 c)) (.cr false)) 1)
  rw [e']

theorem got_rr_false1 : (payOf X W c (.rr false 1) 0 0 : sProp (MM F))
    ⊢ iprop(holds (comm false 0) c fullShare (wHalf W (sh 2 c) false) ∗ reached ER (cell (sh 1 c) (.cr false)) 1) := .rfl

theorem pay_rr_false2 : iprop(holds (comm false 1) (sh 3 c) fullShare (wHalf W (sh 2 c) false) ∗ emp) ⊢ payOf X W (sh 3 c) (.rr false 2) 0 0 := by
  have e : sh (hopFrom false 2) (sh 3 c) = (sh 2 c) := sh_3_3 c
  have e' : sh (ringFrom false) (sh 3 c) = c := sh_1_3 c
  show _ ⊢ iprop(holds (comm false 1) (sh 3 c) fullShare (wHalf W (sh (hopFrom false 2) (sh 3 c)) false) ∗ hopExtra (sh 3 c) false 2)
  rw [e]
  exact .rfl

theorem got_rr_false2 : (payOf X W c (.rr false 2) 0 0 : sProp (MM F))
    ⊢ iprop(holds (comm false 1) c fullShare (wHalf W (sh 3 c) false) ∗ emp) := .rfl

theorem pay_tr0 : iprop(holds (tile0 rxM) (sh 3 c) fullShare (tileOf X W c (sh 3 c) true) ∗ emp) ⊢ payOf X W (sh 3 c) (.tr 0) 0 0 := by
  have e : sh (tileFrom 0) (sh 3 c) = c := sh_1_3 c
  show _ ⊢ tileAt rxM (sh 3 c) (tileOf X W (sh (tileFrom 0) (sh 3 c)) (sh 3 c) true) (tileOf X W (sh (tileFrom 0) (sh 3 c)) (sh 3 c) false) 0
  rw [e]
  exact Laws.sep_emp.1

theorem pay_tr1 : iprop(holds (tile1 rxM) (sh 1 c) fullShare (tileOf X W c (sh 1 c) false) ∗ emp) ⊢ payOf X W (sh 1 c) (.tr 1) 0 0 := by
  have e : sh (tileFrom 1) (sh 1 c) = c := sh_3_1 c
  show _ ⊢ tileAt rxM (sh 1 c) (tileOf X W (sh (tileFrom 1) (sh 1 c)) (sh 1 c) true) (tileOf X W (sh (tileFrom 1) (sh 1 c)) (sh 1 c) false) 1
  rw [e]
  exact Laws.sep_emp.1

theorem pay_tr2 : iprop(holds (tile2 rxM) (sh 2 c) fullShare (beside (tileOf X W c (sh 2 c) true) (tileOf X W c (sh 2 c) false)) ∗ emp) ⊢ payOf X W (sh 2 c) (.tr 2) 0 0 := by
  have e : sh (tileFrom 2) (sh 2 c) = c := sh_2_2 c
  show _ ⊢ tileAt rxM (sh 2 c) (tileOf X W (sh (tileFrom 2) (sh 2 c)) (sh 2 c) true) (tileOf X W (sh (tileFrom 2) (sh 2 c)) (sh 2 c) false) 2
  rw [e]
  exact Laws.sep_emp.1

theorem pay_tr3 : iprop(holds (tile3 rxM) (sh 1 c) fullShare (tileOf X W c (sh 1 c) true) ∗ emp) ⊢ payOf X W (sh 1 c) (.tr 3) 0 0 := by
  have e : sh (tileFrom 3) (sh 1 c) = c := sh_3_1 c
  show _ ⊢ tileAt rxM (sh 1 c) (tileOf X W (sh (tileFrom 3) (sh 1 c)) (sh 1 c) true) (tileOf X W (sh (tileFrom 3) (sh 1 c)) (sh 1 c) false) 3
  rw [e]
  exact Laws.sep_emp.1

theorem pay_tr4 : iprop(holds (tile4 rxM) (sh 3 c) fullShare (tileOf X W c (sh 3 c) false) ∗ emp) ⊢ payOf X W (sh 3 c) (.tr 4) 0 0 := by
  have e : sh (tileFrom 4) (sh 3 c) = c := sh_1_3 c
  show _ ⊢ tileAt rxM (sh 3 c) (tileOf X W (sh (tileFrom 4) (sh 3 c)) (sh 3 c) true) (tileOf X W (sh (tileFrom 4) (sh 3 c)) (sh 3 c) false) 4
  rw [e]
  exact Laws.sep_emp.1

theorem got_rs_true0 : (payOf X W c (.rs true 0) 0 0 : sProp (MM F)) ⊢ holds (wV true) c fullShare.right (wHalf W c true) := .rfl
theorem got_rs_true1 : (payOf X W c (.rs true 1) 0 0 : sProp (MM F)) ⊢ holds (comm true 1) c fullShare.right (wHalf W (sh 3 c) true) := .rfl
theorem got_rs_true2 : (payOf X W c (.rs true 2) 0 0 : sProp (MM F)) ⊢ holds (comm true 0) c fullShare.right (wHalf W (sh 2 c) true) := .rfl
theorem got_rs_false0 : (payOf X W c (.rs false 0) 0 0 : sProp (MM F)) ⊢ holds (wV false) c fullShare.right (wHalf W c false) := .rfl
theorem got_rs_false1 : (payOf X W c (.rs false 1) 0 0 : sProp (MM F)) ⊢ holds (comm false 1) c fullShare.right (wHalf W (sh 1 c) false) := .rfl
theorem got_rs_false2 : (payOf X W c (.rs false 2) 0 0 : sProp (MM F)) ⊢ holds (comm false 0) c fullShare.right (wHalf W (sh 2 c) false) := .rfl
theorem got_ts0 : (payOf X W c (.ts 0) 0 0 : sProp (MM F)) ⊢ holds (tile0 bufM) c fullShare (tileOf X W c (sh 3 c) true) := .rfl
theorem got_tr0 : (payOf X W c (.tr 0) 0 0 : sProp (MM F)) ⊢ holds (tile0 rxM) c fullShare (tileOf X W (sh 1 c) c true) := .rfl
theorem got_ts1 : (payOf X W c (.ts 1) 0 0 : sProp (MM F)) ⊢ holds (tile1 bufM) c fullShare (tileOf X W c (sh 1 c) false) := .rfl
theorem got_tr1 : (payOf X W c (.tr 1) 0 0 : sProp (MM F)) ⊢ holds (tile1 rxM) c fullShare (tileOf X W (sh 3 c) c false) := .rfl
theorem got_ts2 : (payOf X W c (.ts 2) 0 0 : sProp (MM F)) ⊢ holds (tile2 bufM) c fullShare (beside (tileOf X W c (sh 2 c) true) (tileOf X W c (sh 2 c) false)) := .rfl
theorem got_tr2 : (payOf X W c (.tr 2) 0 0 : sProp (MM F)) ⊢ holds (tile2 rxM) c fullShare (beside (tileOf X W (sh 2 c) c true) (tileOf X W (sh 2 c) c false)) := .rfl
theorem got_ts3 : (payOf X W c (.ts 3) 0 0 : sProp (MM F)) ⊢ holds (tile3 bufM) c fullShare (tileOf X W c (sh 1 c) true) := .rfl
theorem got_tr3 : (payOf X W c (.tr 3) 0 0 : sProp (MM F)) ⊢ holds (tile3 rxM) c fullShare (tileOf X W (sh 3 c) c true) := .rfl
theorem got_ts4 : (payOf X W c (.ts 4) 0 0 : sProp (MM F)) ⊢ holds (tile4 bufM) c fullShare (tileOf X W c (sh 3 c) false) := .rfl
theorem got_tr4 : (payOf X W c (.tr 4) 0 0 : sProp (MM F)) ⊢ holds (tile4 rxM) c fullShare (tileOf X W (sh 1 c) c false) := .rfl

theorem got_bar : (bigSep (dutiesOf .bar 0) (fun i => payOf X W c .bar 0 i) : sProp (MM F))
    ⊢ iprop((ready (sh 1 c) ∗ free (comm true 1) (sh 1 c) ∗ free (tile1 rxM) (sh 1 c) ∗ free (tile3 rxM) (sh 1 c))
      ∗ (ready (sh 3 c) ∗ free (comm false 1) (sh 3 c) ∗ free (tile0 rxM) (sh 3 c) ∗ free (tile4 rxM) (sh 3 c))
      ∗ (ready (sh 2 c) ∗ free (tile2 rxM) (sh 2 c))) := by
  have e : dutiesOf .bar 0 = {0, 1, 2} := by decide
  rw [e, bigSep_insert (by decide), bigSep_insert (by decide), bigSep_singleton]
  exact .rfl

theorem got_cr_true0 : (bigSep (dutiesOf (.cr true) 0) (fun i => payOf X W c (.cr true) 0 i) : sProp (MM F)) ⊢ free (comm true 0) (sh 1 c) := by
  have e : dutiesOf (.cr true) 0 = {0} := by decide
  rw [e, bigSep_singleton]
  exact .rfl

theorem got_cr_true1 : (bigSep (dutiesOf (.cr true) 1) (fun i => payOf X W c (.cr true) 1 i) : sProp (MM F)) ⊢ free (comm true 1) (sh 1 c) := by
  have e : dutiesOf (.cr true) 1 = {0} := by decide
  rw [e, bigSep_singleton]
  exact .rfl

theorem got_cr_false0 : (bigSep (dutiesOf (.cr false) 0) (fun i => payOf X W c (.cr false) 0 i) : sProp (MM F)) ⊢ free (comm false 0) (sh 3 c) := by
  have e : dutiesOf (.cr false) 0 = {0} := by decide
  rw [e, bigSep_singleton]
  exact .rfl

theorem got_cr_false1 : (bigSep (dutiesOf (.cr false) 1) (fun i => payOf X W c (.cr false) 1 i) : sProp (MM F)) ⊢ free (comm false 1) (sh 3 c) := by
  have e : dutiesOf (.cr false) 1 = {0} := by decide
  rw [e, bigSep_singleton]
  exact .rfl

end Pays

end Cert.KernelIdealPf

end
-- ==== Proof.KernelIdealPf.PartsA.lean ====
/-
  The kernel's body, statement group by statement group (2 to 5): what each needs and leaves.
-/
module

public import proofs.«01_k».proof.Proof.KernelIdealPf.Moves

@[expose] public section

set_option maxRecDepth 16384

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

section

variable (X : Dev nD → FVec F S1024x4096 .bf16) (W : Dev nD → FVec F S4096x512 .bf16) (κ : Dev nD × Cell → ℕ)

theorem part2_wp (c : Dev nD) (a b e : BitVec 32) :
    iprop(ctx X W κ ∗ ready c
        ∗ dutyTok ER (cell (sh 3 c) .bar) 0 0
        ∗ free (comm true 1) c
        ∗ free (tile1 rxM) c
        ∗ free (tile3 rxM) c
        ∗ debt c (plan.drop 0)
        ∗ reached ER (cell (sh 3 c) .bar) 0
        ∗ dutyTok ER (cell (sh 1 c) .bar) 0 1
        ∗ free (comm false 1) c
        ∗ free (tile0 rxM) c
        ∗ free (tile4 rxM) c
        ∗ reached ER (cell (sh 1 c) .bar) 0
        ∗ dutyTok ER (cell (sh 2 c) .bar) 0 2
        ∗ free (tile2 rxM) c
        ∗ reached ER (cell (sh 2 c) .bar) 0
        ∗ cred (tallyAt (cell c .bar) false 3)
        ∗ atPos ER (cell c .bar) 0 ∅ 0
        ∗ holds (wV true) c fullShare.right (wHalf W c true)
        ∗ dutyTok ER (cell c (.rs true 0)) 0 0
        ∗ dutyTok ER (cell (sh 1 c) (.rr true 0)) 0 0
        ∗ holds (wV false) c fullShare.right (wHalf W c false)
        ∗ dutyTok ER (cell c (.rs false 0)) 0 0
        ∗ dutyTok ER (cell (sh 3 c) (.rr false 0)) 0 0)
      ⊢ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c a b e)
          (fun _ => iprop(ready (sh 1 c) ∗ ready (sh 2 c) ∗ ready (sh 3 c)
        ∗ atPos ER (cell c .bar) 1 ∅ 0
        ∗ free (tile1 rxM) (sh 1 c)
        ∗ free (tile3 rxM) (sh 1 c)
        ∗ free (tile0 rxM) (sh 3 c)
        ∗ free (tile4 rxM) (sh 3 c)
        ∗ free (tile2 rxM) (sh 2 c)
        ∗ cred (tallyAt (cell c (.rs true 0)) false (amountOf (.rs true 0)))
        ∗ cred (tallyAt (cell c (.rs false 0)) false (amountOf (.rs false 0)))
        ∗ debt c (plan.drop 5))) := by
  rw [k0_part2_eq_skeleton]
  unfold k0_part2_skel
  simp only [semSignalWord, semWaitWord, Prog.lift, Prog.bind_op, Prog.bind_ret, Prog.pure_eq_ret]
  iintro ⟨#HC, #Hr0, HTB0, HFt1, HZ1, HZ3, HD0, #HKB3, HTB1, HFf1, HZ0, HZ4, #HKB1, HTB2, HZ2, #HKB2, HCbar, HAbar0, HWt, HTSt0, HTRt0, HWf, HTSf0, HTRf0⟩
  iapply (step_signal X W κ c 3 (.bar) false (plan.drop 1) 0 0 (dev1 c) rfl (by decide) rfl) $$ [HD0 HTB0 HFt1 HZ1 HZ3 HKB3]
  · isplitr; · iexact HC
    isplitl [HD0]; · iexact HD0
    isplitl [HTB0]; · iexact HTB0
    isplitl [HFt1 HZ1 HZ3]
    · iapply (pay_bar0 X W c)
      isplitr; · iexact Hr0
      isplitl [HFt1]; · iexact HFt1
      isplitl [HZ1]; · iexact HZ1
      iexact HZ3
    iexact HKB3
  iintro HD1
  iapply (step_signal X W κ c 1 (.bar) false (plan.drop 2) 0 1 (dev2 c) rfl (by decide) rfl) $$ [HD1 HTB1 HFf1 HZ0 HZ4 HKB1]
  · isplitr; · iexact HC
    isplitl [HD1]; · iexact HD1
    isplitl [HTB1]; · iexact HTB1
    isplitl [HFf1 HZ0 HZ4]
    · iapply (pay_bar1 X W c)
      isplitr; · iexact Hr0
      isplitl [HFf1]; · iexact HFf1
      isplitl [HZ0]; · iexact HZ0
      iexact HZ4
    iexact HKB1
  iintro HD2
  iapply (step_signal X W κ c 2 (.bar) false (plan.drop 3) 0 2 (dev3 c) rfl (by decide) rfl) $$ [HD2 HTB2 HZ2 HKB2]
  · isplitr; · iexact HC
    isplitl [HD2]; · iexact HD2
    isplitl [HTB2]; · iexact HTB2
    isplitl [HZ2]
    · iapply (pay_bar2 X W c)
      isplitr; · iexact Hr0
      iexact HZ2
    iexact HKB2
  iintro HD3
  iapply (step_wait X W κ c (.bar) 0 false (plan.drop 3) (n := 3) rfl rfl (by decide)) $$ [HCbar HD3 HAbar0]
  · isplitr; · iexact HC
    isplitl [HCbar]; · iexact HCbar
    isplitl [HD3]; · iexact HD3
    iexact HAbar0
  iintro ⟨HD3, HAbar1, -, Hp⟩
  ihave Hp := (got_bar X W c) $$ Hp
  icases Hp with ⟨⟨#Hr1, HNt1, HZN1, HZN3⟩, ⟨#Hr3, HNf1, HZN0, HZN4⟩, ⟨#Hr2, HZN2⟩⟩
  iapply (step_send X W κ c 1 (.rs true 0) (.rr true 0) (plan.drop 4) (wV true) (comm true 1) fullShare.right (wHalf W c true) iprop(emp) (dev4 c) rfl rfl (by decide) (by decide) rfl rfl .rfl
    (pay_rr_true0 X W c)) $$ [HWt HNt1 HD3 HTSt0 HTRt0]
  · isplitr; · iexact HC
    isplitl [HWt]; · iexact HWt
    isplitl [HNt1]; · iexact HNt1
    isplitr; · iempintro
    isplitl [HD3]; · iexact HD3
    isplitl [HTSt0]; · iexact HTSt0
    isplitr; · iapply (ready_get c (.rs true 0)); iexact Hr0
    isplitl [HTRt0]; · iexact HTRt0
    iapply (ready_get (sh 1 c) (.rr true 0)); iexact Hr1
  iintro ⟨HCst0, HD4⟩
  iapply (step_send X W κ c 3 (.rs false 0) (.rr false 0) (plan.drop 5) (wV false) (comm false 1) fullShare.right (wHalf W c false) iprop(emp) (dev5 c) rfl rfl (by decide) (by decide) rfl rfl .rfl
    (pay_rr_false0 X W c)) $$ [HWf HNf1 HD4 HTSf0 HTRf0]
  · isplitr; · iexact HC
    isplitl [HWf]; · iexact HWf
    isplitl [HNf1]; · iexact HNf1
    isplitr; · iempintro
    isplitl [HD4]; · iexact HD4
    isplitl [HTSf0]; · iexact HTSf0
    isplitr; · iapply (ready_get c (.rs false 0)); iexact Hr0
    isplitl [HTRf0]; · iexact HTRf0
    iapply (ready_get (sh 3 c) (.rr false 0)); iexact Hr3
  iintro ⟨HCsf0, HD5⟩
  rw [wp_ret]
  imodintro
  isplitr; · iexact Hr1
  isplitr; · iexact Hr2
  isplitr; · iexact Hr3
  isplitl [HAbar1]; · iexact HAbar1
  isplitl [HZN1]; · iexact HZN1
  isplitl [HZN3]; · iexact HZN3
  isplitl [HZN0]; · iexact HZN0
  isplitl [HZN4]; · iexact HZN4
  isplitl [HZN2]; · iexact HZN2
  isplitl [HCst0]; · iexact HCst0
  isplitl [HCsf0]; · iexact HCsf0
  iexact HD5

theorem part3_wp (c : Dev nD) (g : FVec F S4096x512 .f32) (a b e : BitVec 32) :
    iprop(ctx X W κ ∗ ready c ∗ ready (sh 1 c) ∗ ready (sh 2 c) ∗ ready (sh 3 c)
        ∗ xAt X c
        ∗ wKept W c
        ∗ oAt c g []
        ∗ cred (tallyAt (cell c (.rr true 0)) false (amountOf (.rr true 0)))
        ∗ atPos ER (cell c (.rr true 0)) 0 ∅ 0
        ∗ debt c (plan.drop 5)
        ∗ cred (tallyAt (cell c (.rr false 0)) false (amountOf (.rr false 0)))
        ∗ atPos ER (cell c (.rr false 0)) 0 ∅ 0)
      ⊢ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c a b e)
          (fun _ => iprop(xAt X c
        ∗ wKept W c
        ∗ oAt c g [pc1 X W c]
        ∗ atPos ER (cell c (.rr true 0)) 1 ∅ 0
        ∗ holds (comm true 1) c fullShare (wHalf W (sh 3 c) true)
        ∗ debt c (plan.drop 5)
        ∗ atPos ER (cell c (.rr false 0)) 1 ∅ 0
        ∗ holds (comm false 1) c fullShare (wHalf W (sh 1 c) false))) := by
  rw [k0_part3_eq_skeleton]
  unfold k0_part3_skel
  simp only [semSignalWord, semWaitWord, Prog.lift, Prog.bind_op, Prog.bind_ret, Prog.pure_eq_ret]
  iintro ⟨#HC, #Hr0, #Hr1, #Hr2, #Hr3, HX, HWK, HO0, HCrt0, HArt00, HD5, HCrf0, HArf00⟩
  iapply (load_x X c) $$ HX
  iintro HX
  iapply (load_w W c) $$ HWK
  iintro HWK
  iapply (load_o c g []) $$ HO0
  iintro %_ HO0
  iapply (store_o c g [] (Rect.unit (s := S4096x512) (k0_off1 c) S1024x512.size (k0_off1_inb c)) (k0_pay1 (X c) (W c)) (k0_pay1 (X c) (W c)) (rfl)) $$ HO0
  iintro HO1
  iapply (step_wait_dma X W κ c (.rr true 0) (plan.drop 5) (dst := comm true 1) rfl rfl rfl (by decide)) $$ [HCrt0 HD5 HArt00]
  · isplitr; · iexact HC
    isplitl [HCrt0]; · iexact HCrt0
    isplitl [HD5]; · iexact HD5
    iexact HArt00
  iintro ⟨HD5, HArt01, Hp⟩
  ihave Hp := (got_rr_true0 X W c) $$ Hp
  icases Hp with ⟨HVt0full, -⟩
  iapply (step_wait_dma X W κ c (.rr false 0) (plan.drop 5) (dst := comm false 1) rfl rfl rfl (by decide)) $$ [HCrf0 HD5 HArf00]
  · isplitr; · iexact HC
    isplitl [HCrf0]; · iexact HCrf0
    isplitl [HD5]; · iexact HD5
    iexact HArf00
  iintro ⟨HD5, HArf01, Hp⟩
  ihave Hp := (got_rr_false0 X W c) $$ Hp
  icases Hp with ⟨HVf0full, -⟩
  rw [wp_ret]
  imodintro
  isplitl [HX]; · iexact HX
  isplitl [HWK]; · iexact HWK
  isplitl [HO1]; · iexact HO1
  isplitl [HArt01]; · iexact HArt01
  isplitl [HVt0full]; · iexact HVt0full
  isplitl [HD5]; · iexact HD5
  isplitl [HArf01]; · iexact HArf01
  iexact HVf0full

theorem part4_wp (c : Dev nD) (a b : BitVec 32) :
    iprop(ctx X W κ ∗ ready c ∗ ready (sh 1 c) ∗ ready (sh 2 c) ∗ ready (sh 3 c)
        ∗ cred (tallyAt (cell c (.rs true 0)) false (amountOf (.rs true 0)))
        ∗ atPos ER (cell c (.rs true 0)) 0 ∅ 0
        ∗ debt c (plan.drop 5)
        ∗ cred (tallyAt (cell c (.rs false 0)) false (amountOf (.rs false 0)))
        ∗ atPos ER (cell c (.rs false 0)) 0 ∅ 0
        ∗ dutyTok ER (cell (sh 3 c) (.cr true)) 0 0
        ∗ free (comm true 0) c
        ∗ dutyTok ER (cell (sh 1 c) (.cr false)) 0 0
        ∗ free (comm false 0) c
        ∗ cred (tallyAt (cell c (.cr true)) false 1)
        ∗ atPos ER (cell c (.cr true)) 0 ∅ 0
        ∗ cred (tallyAt (cell c (.cr false)) false 1)
        ∗ atPos ER (cell c (.cr false)) 0 ∅ 0)
      ⊢ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c a b)
          (fun _ => iprop(atPos ER (cell c (.rs true 0)) 1 ∅ 0
        ∗ holds (wV true) c fullShare.right (wHalf W c true)
        ∗ atPos ER (cell c (.rs false 0)) 1 ∅ 0
        ∗ holds (wV false) c fullShare.right (wHalf W c false)
        ∗ atPos ER (cell c (.cr true)) 1 ∅ 0
        ∗ reached ER (cell c (.cr true)) 1
        ∗ free (comm true 0) (sh 1 c)
        ∗ debt c (plan.drop 7)
        ∗ atPos ER (cell c (.cr false)) 1 ∅ 0
        ∗ reached ER (cell c (.cr false)) 1
        ∗ free (comm false 0) (sh 3 c))) := by
  rw [k0_part4_eq_skeleton]
  unfold k0_part4_skel
  simp only [semSignalWord, semWaitWord, Prog.lift, Prog.bind_op, Prog.bind_ret, Prog.pure_eq_ret]
  iintro ⟨#HC, #Hr0, #Hr1, #Hr2, #Hr3, HCst0, HAst00, HD5, HCsf0, HAsf00, HTCt0, HFt0, HTCf0, HFf0, HCct0, HAct0, HCcf0, HAcf0⟩
  iapply (step_wait_dma X W κ c (.rs true 0) (plan.drop 5) (dst := comm true 0) rfl rfl rfl (by decide)) $$ [HCst0 HD5 HAst00]
  · isplitr; · iexact HC
    isplitl [HCst0]; · iexact HCst0
    isplitl [HD5]; · iexact HD5
    iexact HAst00
  iintro ⟨HD5, HAst01, Hp⟩
  ihave HWt := (got_rs_true0 X W c) $$ Hp
  iapply (step_wait_dma X W κ c (.rs false 0) (plan.drop 5) (dst := comm false 0) rfl rfl rfl (by decide)) $$ [HCsf0 HD5 HAsf00]
  · isplitr; · iexact HC
    isplitl [HCsf0]; · iexact HCsf0
    isplitl [HD5]; · iexact HD5
    iexact HAsf00
  iintro ⟨HD5, HAsf01, Hp⟩
  ihave HWf := (got_rs_false0 X W c) $$ Hp
  iapply (step_signal X W κ c 3 (.cr true) false (plan.drop 6) 0 0 (dev6 c) rfl (by decide) rfl) $$ [HD5 HTCt0 HFt0]
  · isplitr; · iexact HC
    isplitl [HD5]; · iexact HD5
    isplitl [HTCt0]; · iexact HTCt0
    isplitl [HFt0]
    · iapply (pay_cr_true0 X W c)
      iexact HFt0
    iapply (ready_get (sh 3 c) (.cr true)); iexact Hr3
  iintro HD6
  iapply (step_signal X W κ c 1 (.cr false) false (plan.drop 7) 0 0 (dev7 c) rfl (by decide) rfl) $$ [HD6 HTCf0 HFf0]
  · isplitr; · iexact HC
    isplitl [HD6]; · iexact HD6
    isplitl [HTCf0]; · iexact HTCf0
    isplitl [HFf0]
    · iapply (pay_cr_false0 X W c)
      iexact HFf0
    iapply (ready_get (sh 1 c) (.cr false)); iexact Hr1
  iintro HD7
  iapply (step_wait X W κ c (.cr true) 0 false (plan.drop 7) (n := 1) rfl rfl (by decide)) $$ [HCct0 HD7 HAct0]
  · isplitr; · iexact HC
    isplitl [HCct0]; · iexact HCct0
    isplitl [HD7]; · iexact HD7
    iexact HAct0
  iintro ⟨HD7, HAct1, #HKt, Hp⟩
  ihave HNt0 := (got_cr_true0 X W c) $$ Hp
  iapply (step_wait X W κ c (.cr false) 0 false (plan.drop 7) (n := 1) rfl rfl (by decide)) $$ [HCcf0 HD7 HAcf0]
  · isplitr; · iexact HC
    isplitl [HCcf0]; · iexact HCcf0
    isplitl [HD7]; · iexact HD7
    iexact HAcf0
  iintro ⟨HD7, HAcf1, #HKf, Hp⟩
  ihave HNf0 := (got_cr_false0 X W c) $$ Hp
  rw [wp_ret]
  imodintro
  isplitl [HAst01]; · iexact HAst01
  isplitl [HWt]; · iexact HWt
  isplitl [HAsf01]; · iexact HAsf01
  isplitl [HWf]; · iexact HWf
  isplitl [HAct1]; · iexact HAct1
  isplitr; · iexact HKt
  isplitl [HNt0]; · iexact HNt0
  isplitl [HD7]; · iexact HD7
  isplitl [HAcf1]; · iexact HAcf1
  isplitr; · iexact HKf
  iexact HNf0

theorem part5_wp (c : Dev nD) (a : BitVec 32) :
    iprop(ctx X W κ ∗ ready c ∗ ready (sh 1 c) ∗ ready (sh 2 c) ∗ ready (sh 3 c)
        ∗ holds (comm true 1) c fullShare (wHalf W (sh 3 c) true)
        ∗ free (comm true 0) (sh 1 c)
        ∗ dutyTok ER (cell c (.rs true 1)) 0 0
        ∗ dutyTok ER (cell (sh 1 c) (.rr true 1)) 0 0
        ∗ debt c (plan.drop 7)
        ∗ reached ER (cell c (.cr true)) 1
        ∗ holds (comm false 1) c fullShare (wHalf W (sh 1 c) false)
        ∗ free (comm false 0) (sh 3 c)
        ∗ dutyTok ER (cell c (.rs false 1)) 0 0
        ∗ dutyTok ER (cell (sh 3 c) (.rr false 1)) 0 0
        ∗ reached ER (cell c (.cr false)) 1
        ∗ xAt X c
        ∗ free (tile0 bufM) c)
      ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c a)
          (fun r => iprop(⌜r = tileOf X W c (sh 1 c) false⌝
        ∗ holds (comm true 1) c fullShare.left (wHalf W (sh 3 c) true)
        ∗ cred (tallyAt (cell c (.rs true 1)) false (amountOf (.rs true 1)))
        ∗ holds (comm false 1) c fullShare.left (wHalf W (sh 1 c) false)
        ∗ cred (tallyAt (cell c (.rs false 1)) false (amountOf (.rs false 1)))
        ∗ debt c (plan.drop 9)
        ∗ xAt X c
        ∗ holds (tile0 bufM) c fullShare (tileOf X W c (sh 3 c) true))) := by
  rw [k0_part5_eq_skeleton]
  unfold k0_part5_skel
  simp only [semSignalWord, semWaitWord, Prog.lift, Prog.bind_op, Prog.bind_ret, Prog.pure_eq_ret]
  iintro ⟨#HC, #Hr0, #Hr1, #Hr2, #Hr3, HVt0full, HNt0, HTSt1, HTRt1, HD7, #HKt, HVf0full, HNf0, HTSf1, HTRf1, #HKf, HX, HY0⟩
  ihave Hp := (holds_halves (comm true 1) c (wHalf W (sh 3 c) true)).1 $$ HVt0full
  icases Hp with ⟨HVt0left, HVt0right⟩
  iapply (step_send X W κ c 1 (.rs true 1) (.rr true 1) (plan.drop 8) (comm true 1) (comm true 0) fullShare.right (wHalf W (sh 3 c) true) (reached ER (cell c (.cr true)) 1) (dev8 c) rfl rfl (by decide) (by decide) rfl rfl .rfl
    (pay_rr_true1 X W c)) $$ [HVt0right HNt0 HD7 HTSt1 HTRt1]
  · isplitr; · iexact HC
    isplitl [HVt0right]; · iexact HVt0right
    isplitl [HNt0]; · iexact HNt0
    isplitr; · iexact HKt
    isplitl [HD7]; · iexact HD7
    isplitl [HTSt1]; · iexact HTSt1
    isplitr; · iapply (ready_get c (.rs true 1)); iexact Hr0
    isplitl [HTRt1]; · iexact HTRt1
    iapply (ready_get (sh 1 c) (.rr true 1)); iexact Hr1
  iintro ⟨HCst1, HD8⟩
  ihave Hp := (holds_halves (comm false 1) c (wHalf W (sh 1 c) false)).1 $$ HVf0full
  icases Hp with ⟨HVf0left, HVf0right⟩
  iapply (step_send X W κ c 3 (.rs false 1) (.rr false 1) (plan.drop 9) (comm false 1) (comm false 0) fullShare.right (wHalf W (sh 1 c) false) (reached ER (cell c (.cr false)) 1) (dev9 c) rfl rfl (by decide) (by decide) rfl rfl .rfl
    (pay_rr_false1 X W c)) $$ [HVf0right HNf0 HD8 HTSf1 HTRf1]
  · isplitr; · iexact HC
    isplitl [HVf0right]; · iexact HVf0right
    isplitl [HNf0]; · iexact HNf0
    isplitr; · iexact HKf
    isplitl [HD8]; · iexact HD8
    isplitl [HTSf1]; · iexact HTSf1
    isplitr; · iapply (ready_get c (.rs false 1)); iexact Hr0
    isplitl [HTRf1]; · iexact HTRf1
    iapply (ready_get (sh 3 c) (.rr false 1)); iexact Hr3
  iintro ⟨HCsf1, HD9⟩
  iapply (load_x X c) $$ HX
  iintro HX
  iapply (step_load c (commM true) rC1 (fun _ => rfl) squeezes_S1x4096x256_S4096x256 shapeCasts_S1x4096x256_S4096x256 fullShare.left (wHalf W (sh 3 c) true)) $$ HVt0left
  iintro %u %hu HVt0left
  iapply (step_load_free c bufM rT0 (fun _ => rfl) squeezes_S1x1024x256_S1024x256) $$ HY0
  iintro %_ HY0
  iapply (step_store c bufM rT0 (fun _ => rfl) squeezes_S1x1024x256_S1024x256 shapeCasts_S1x1024x256_S1024x256 (k0_pay2 (X c) u) (tileOf X W c (sh 3 c) true) (pay2_eq (X c) u _ hu)) $$ HY0
  iintro HT0
  iapply (load_x X c) $$ HX
  iintro HX
  iapply (step_load c (commM false) rC1 (fun _ => rfl) squeezes_S1x4096x256_S4096x256 shapeCasts_S1x4096x256_S4096x256 fullShare.left (wHalf W (sh 1 c) false)) $$ HVf0left
  iintro %u' %hu' HVf0left
  rw [wp_ret]
  imodintro
  isplitr; · ipureintro; exact (pay3_eq (X c) u' _ hu')
  isplitl [HVt0left]; · iexact HVt0left
  isplitl [HCst1]; · iexact HCst1
  isplitl [HVf0left]; · iexact HVf0left
  isplitl [HCsf1]; · iexact HCsf1
  isplitl [HD9]; · iexact HD9
  isplitl [HX]; · iexact HX
  iexact HT0

end

end Cert.KernelIdealPf

end
-- ==== Proof.KernelIdealPf.PartsB.lean ====
/-
  The kernel's body, statement group by statement group (6 to 10): what each needs and leaves.
-/
module

public import proofs.«01_k».proof.Proof.KernelIdealPf.PartsA

@[expose] public section

set_option maxRecDepth 16384

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

section

variable (X : Dev nD → FVec F S1024x4096 .bf16) (W : Dev nD → FVec F S4096x512 .bf16) (κ : Dev nD × Cell → ℕ)

theorem part6_wp (c : Dev nD) (a : BitVec 32) (v : FVec F S1024x256 .bf16) (hv : v = tileOf X W c (sh 1 c) false) :
    iprop(ctx X W κ ∗ ready c ∗ ready (sh 1 c) ∗ ready (sh 2 c) ∗ ready (sh 3 c)
        ∗ free (tile1 bufM) c)
      ⊢ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 a v)
          (fun _ => iprop(holds (tile1 bufM) c fullShare (tileOf X W c (sh 1 c) false))) := by
  rw [k0_part6_eq_skeleton]
  unfold k0_part6_skel
  simp only [semSignalWord, semWaitWord, Prog.lift, Prog.bind_op, Prog.bind_ret, Prog.pure_eq_ret]
  iintro ⟨#HC, #Hr0, #Hr1, #Hr2, #Hr3, HY1⟩
  iapply (step_load_free c bufM rT1 (fun _ => rfl) squeezes_S1x1024x256_S1024x256) $$ HY1
  iintro %_ HY1
  iapply (step_store c bufM rT1 (fun _ => rfl) squeezes_S1x1024x256_S1024x256 shapeCasts_S1x1024x256_S1024x256 (k0_pay4 v) (tileOf X W c (sh 1 c) false) ((pay4_eq v).trans hv)) $$ HY1
  iintro HT1
  rw [wp_ret]
  imodintro
  iexact HT1

theorem part7_wp (c : Dev nD) (a b e : BitVec 32) :
    iprop(ctx X W κ ∗ ready c ∗ ready (sh 1 c) ∗ ready (sh 2 c) ∗ ready (sh 3 c)
        ∗ holds (tile0 bufM) c fullShare (tileOf X W c (sh 3 c) true)
        ∗ free (tile0 rxM) (sh 3 c)
        ∗ dutyTok ER (cell c (.ts 0)) 0 0
        ∗ dutyTok ER (cell (sh 3 c) (.tr 0)) 0 0
        ∗ debt c (plan.drop 9)
        ∗ holds (tile1 bufM) c fullShare (tileOf X W c (sh 1 c) false)
        ∗ free (tile1 rxM) (sh 1 c)
        ∗ dutyTok ER (cell c (.ts 1)) 0 0
        ∗ dutyTok ER (cell (sh 1 c) (.tr 1)) 0 0
        ∗ cred (tallyAt (cell c (.rr true 1)) false (amountOf (.rr true 1)))
        ∗ atPos ER (cell c (.rr true 1)) 0 ∅ 0)
      ⊢ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c a b e)
          (fun _ => iprop(cred (tallyAt (cell c (.ts 0)) false (amountOf (.ts 0)))
        ∗ cred (tallyAt (cell c (.ts 1)) false (amountOf (.ts 1)))
        ∗ debt c (plan.drop 11)
        ∗ atPos ER (cell c (.rr true 1)) 1 ∅ 0
        ∗ holds (comm true 0) c fullShare (wHalf W (sh 2 c) true)
        ∗ reached ER (cell (sh 3 c) (.cr true)) 1)) := by
  rw [k0_part7_eq_skeleton]
  unfold k0_part7_skel
  simp only [semSignalWord, semWaitWord, Prog.lift, Prog.bind_op, Prog.bind_ret, Prog.pure_eq_ret]
  iintro ⟨#HC, #Hr0, #Hr1, #Hr2, #Hr3, HT0, HZN0, HUS0, HUR0, HD9, HT1, HZN1, HUS1, HUR1, HCrt1, HArt10⟩
  iapply (step_send X W κ c 3 (.ts 0) (.tr 0) (plan.drop 10) (tile0 bufM) (tile0 rxM) fullShare (tileOf X W c (sh 3 c) true) iprop(emp) (dev10 c) rfl rfl (by decide) (by decide) rfl rfl .rfl
    (pay_tr0 X W c)) $$ [HT0 HZN0 HD9 HUS0 HUR0]
  · isplitr; · iexact HC
    isplitl [HT0]; · iexact HT0
    isplitl [HZN0]; · iexact HZN0
    isplitr; · iempintro
    isplitl [HD9]; · iexact HD9
    isplitl [HUS0]; · iexact HUS0
    isplitr; · iapply (ready_get c (.ts 0)); iexact Hr0
    isplitl [HUR0]; · iexact HUR0
    iapply (ready_get (sh 3 c) (.tr 0)); iexact Hr3
  iintro ⟨HEs0, HD10⟩
  iapply (step_send X W κ c 1 (.ts 1) (.tr 1) (plan.drop 11) (tile1 bufM) (tile1 rxM) fullShare (tileOf X W c (sh 1 c) false) iprop(emp) (dev11 c) rfl rfl (by decide) (by decide) rfl rfl .rfl
    (pay_tr1 X W c)) $$ [HT1 HZN1 HD10 HUS1 HUR1]
  · isplitr; · iexact HC
    isplitl [HT1]; · iexact HT1
    isplitl [HZN1]; · iexact HZN1
    isplitr; · iempintro
    isplitl [HD10]; · iexact HD10
    isplitl [HUS1]; · iexact HUS1
    isplitr; · iapply (ready_get c (.ts 1)); iexact Hr0
    isplitl [HUR1]; · iexact HUR1
    iapply (ready_get (sh 1 c) (.tr 1)); iexact Hr1
  iintro ⟨HEs1, HD11⟩
  iapply (step_wait_dma X W κ c (.rr true 1) (plan.drop 11) (dst := comm true 0) rfl rfl rfl (by decide)) $$ [HCrt1 HD11 HArt10]
  · isplitr; · iexact HC
    isplitl [HCrt1]; · iexact HCrt1
    isplitl [HD11]; · iexact HD11
    iexact HArt10
  iintro ⟨HD11, HArt11, Hp⟩
  ihave Hp := (got_rr_true1 X W c) $$ Hp
  icases Hp with ⟨HVt1full, #HKNt⟩
  rw [wp_ret]
  imodintro
  isplitl [HEs0]; · iexact HEs0
  isplitl [HEs1]; · iexact HEs1
  isplitl [HD11]; · iexact HD11
  isplitl [HArt11]; · iexact HArt11
  isplitl [HVt1full]; · iexact HVt1full
  iexact HKNt

theorem part8_wp (c : Dev nD) (a b : BitVec 32) :
    iprop(ctx X W κ ∗ ready c ∗ ready (sh 1 c) ∗ ready (sh 2 c) ∗ ready (sh 3 c)
        ∗ cred (tallyAt (cell c (.rr false 1)) false (amountOf (.rr false 1)))
        ∗ atPos ER (cell c (.rr false 1)) 0 ∅ 0
        ∗ debt c (plan.drop 11)
        ∗ cred (tallyAt (cell c (.rs true 1)) false (amountOf (.rs true 1)))
        ∗ atPos ER (cell c (.rs true 1)) 0 ∅ 0
        ∗ cred (tallyAt (cell c (.rs false 1)) false (amountOf (.rs false 1)))
        ∗ atPos ER (cell c (.rs false 1)) 0 ∅ 0
        ∗ holds (comm true 1) c fullShare.left (wHalf W (sh 3 c) true)
        ∗ holds (comm false 1) c fullShare.left (wHalf W (sh 1 c) false)
        ∗ dutyTok ER (cell (sh 3 c) (.cr true)) 1 0
        ∗ reached ER (cell (sh 3 c) (.cr true)) 1
        ∗ dutyTok ER (cell (sh 1 c) (.cr false)) 1 0
        ∗ cred (tallyAt (cell c (.cr true)) true 1)
        ∗ atPos ER (cell c (.cr true)) 1 ∅ 0
        ∗ cred (tallyAt (cell c (.cr false)) true 1)
        ∗ atPos ER (cell c (.cr false)) 1 ∅ 0)
      ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c a b)
          (fun _ => iprop(atPos ER (cell c (.rr false 1)) 1 ∅ 0
        ∗ holds (comm false 0) c fullShare (wHalf W (sh 2 c) false)
        ∗ atPos ER (cell c (.rs true 1)) 1 ∅ 0
        ∗ atPos ER (cell c (.rs false 1)) 1 ∅ 0
        ∗ atPos ER (cell c (.cr true)) 2 ∅ 0
        ∗ free (comm true 1) (sh 1 c)
        ∗ debt c (plan.drop 13)
        ∗ atPos ER (cell c (.cr false)) 2 ∅ 0
        ∗ free (comm false 1) (sh 3 c))) := by
  rw [k0_part8_eq_skeleton]
  unfold k0_part8_skel
  simp only [semSignalWord, semWaitWord, Prog.lift, Prog.bind_op, Prog.bind_ret, Prog.pure_eq_ret]
  iintro ⟨#HC, #Hr0, #Hr1, #Hr2, #Hr3, HCrf1, HArf10, HD11, HCst1, HAst10, HCsf1, HAsf10, HVt0left, HVf0left, HTCt1, #HKNt, HTCf1, HCct1, HAct1, HCcf1, HAcf1⟩
  iapply (step_wait_dma X W κ c (.rr false 1) (plan.drop 11) (dst := comm false 0) rfl rfl rfl (by decide)) $$ [HCrf1 HD11 HArf10]
  · isplitr; · iexact HC
    isplitl [HCrf1]; · iexact HCrf1
    isplitl [HD11]; · iexact HD11
    iexact HArf10
  iintro ⟨HD11, HArf11, Hp⟩
  ihave Hp := (got_rr_false1 X W c) $$ Hp
  icases Hp with ⟨HVf1full, #HKNf⟩
  iapply (step_wait_dma X W κ c (.rs true 1) (plan.drop 11) (dst := comm true 1) rfl rfl rfl (by decide)) $$ [HCst1 HD11 HAst10]
  · isplitr; · iexact HC
    isplitl [HCst1]; · iexact HCst1
    isplitl [HD11]; · iexact HD11
    iexact HAst10
  iintro ⟨HD11, HAst11, Hp⟩
  ihave HVt0right := (got_rs_true1 X W c) $$ Hp
  iapply (step_wait_dma X W κ c (.rs false 1) (plan.drop 11) (dst := comm false 1) rfl rfl rfl (by decide)) $$ [HCsf1 HD11 HAsf10]
  · isplitr; · iexact HC
    isplitl [HCsf1]; · iexact HCsf1
    isplitl [HD11]; · iexact HD11
    iexact HAsf10
  iintro ⟨HD11, HAsf11, Hp⟩
  ihave HVf0right := (got_rs_false1 X W c) $$ Hp
  ihave Hp := (holds_halves (comm true 1) c (wHalf W (sh 3 c) true)).2 $$ [HVt0left HVt0right]
  · isplitl [HVt0left]; · iexact HVt0left
    iexact HVt0right
  ihave HFt1 := (holds_free (comm true 1) c (wHalf W (sh 3 c) true)) $$ Hp
  ihave Hp := (holds_halves (comm false 1) c (wHalf W (sh 1 c) false)).2 $$ [HVf0left HVf0right]
  · isplitl [HVf0left]; · iexact HVf0left
    iexact HVf0right
  ihave HFf1 := (holds_free (comm false 1) c (wHalf W (sh 1 c) false)) $$ Hp
  iapply (step_signal X W κ c 3 (.cr true) true (plan.drop 12) 1 0 (dev12 c) rfl (by decide) rfl) $$ [HD11 HTCt1 HFt1 HKNt]
  · isplitr; · iexact HC
    isplitl [HD11]; · iexact HD11
    isplitl [HTCt1]; · iexact HTCt1
    isplitl [HFt1]
    · iapply (pay_cr_true1 X W c)
      iexact HFt1
    iexact HKNt
  iintro HD12
  iapply (step_signal X W κ c 1 (.cr false) true (plan.drop 13) 1 0 (dev13 c) rfl (by decide) rfl) $$ [HD12 HTCf1 HFf1 HKNf]
  · isplitr; · iexact HC
    isplitl [HD12]; · iexact HD12
    isplitl [HTCf1]; · iexact HTCf1
    isplitl [HFf1]
    · iapply (pay_cr_false1 X W c)
      iexact HFf1
    iexact HKNf
  iintro HD13
  iapply (step_wait X W κ c (.cr true) 1 true (plan.drop 13) (n := 1) rfl rfl (by decide)) $$ [HCct1 HD13 HAct1]
  · isplitr; · iexact HC
    isplitl [HCct1]; · iexact HCct1
    isplitl [HD13]; · iexact HD13
    iexact HAct1
  iintro ⟨HD13, HAct2, -, Hp⟩
  ihave HNt1 := (got_cr_true1 X W c) $$ Hp
  iapply (step_wait X W κ c (.cr false) 1 true (plan.drop 13) (n := 1) rfl rfl (by decide)) $$ [HCcf1 HD13 HAcf1]
  · isplitr; · iexact HC
    isplitl [HCcf1]; · iexact HCcf1
    isplitl [HD13]; · iexact HD13
    iexact HAcf1
  iintro ⟨HD13, HAcf2, -, Hp⟩
  ihave HNf1 := (got_cr_false1 X W c) $$ Hp
  rw [wp_ret]
  imodintro
  isplitl [HArf11]; · iexact HArf11
  isplitl [HVf1full]; · iexact HVf1full
  isplitl [HAst11]; · iexact HAst11
  isplitl [HAsf11]; · iexact HAsf11
  isplitl [HAct2]; · iexact HAct2
  isplitl [HNt1]; · iexact HNt1
  isplitl [HD13]; · iexact HD13
  isplitl [HAcf2]; · iexact HAcf2
  iexact HNf1

theorem part9_wp (c : Dev nD) (a b : BitVec 32) :
    iprop(ctx X W κ ∗ ready c ∗ ready (sh 1 c) ∗ ready (sh 2 c) ∗ ready (sh 3 c)
        ∗ holds (comm true 0) c fullShare (wHalf W (sh 2 c) true)
        ∗ free (comm true 1) (sh 1 c)
        ∗ dutyTok ER (cell c (.rs true 2)) 0 0
        ∗ dutyTok ER (cell (sh 1 c) (.rr true 2)) 0 0
        ∗ debt c (plan.drop 13)
        ∗ holds (comm false 0) c fullShare (wHalf W (sh 2 c) false)
        ∗ free (comm false 1) (sh 3 c)
        ∗ dutyTok ER (cell c (.rs false 2)) 0 0
        ∗ dutyTok ER (cell (sh 3 c) (.rr false 2)) 0 0
        ∗ xAt X c
        ∗ free (tile2l bufM) c)
      ⊢ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c a b)
          (fun r => iprop(⌜r = X c⌝
        ∗ holds (comm true 0) c fullShare.left (wHalf W (sh 2 c) true)
        ∗ cred (tallyAt (cell c (.rs true 2)) false (amountOf (.rs true 2)))
        ∗ holds (comm false 0) c fullShare.left (wHalf W (sh 2 c) false)
        ∗ cred (tallyAt (cell c (.rs false 2)) false (amountOf (.rs false 2)))
        ∗ debt c (plan.drop 15)
        ∗ xAt X c
        ∗ holds (tile2l bufM) c fullShare (tileOf X W c (sh 2 c) true))) := by
  rw [k0_part9_eq_skeleton]
  unfold k0_part9_skel
  simp only [semSignalWord, semWaitWord, Prog.lift, Prog.bind_op, Prog.bind_ret, Prog.pure_eq_ret]
  iintro ⟨#HC, #Hr0, #Hr1, #Hr2, #Hr3, HVt1full, HNt1, HTSt2, HTRt2, HD13, HVf1full, HNf1, HTSf2, HTRf2, HX, HY2l⟩
  ihave Hp := (holds_halves (comm true 0) c (wHalf W (sh 2 c) true)).1 $$ HVt1full
  icases Hp with ⟨HVt1left, HVt1right⟩
  iapply (step_send X W κ c 1 (.rs true 2) (.rr true 2) (plan.drop 14) (comm true 0) (comm true 1) fullShare.right (wHalf W (sh 2 c) true) iprop(emp) (dev14 c) rfl rfl (by decide) (by decide) rfl rfl .rfl
    (pay_rr_true2 X W c)) $$ [HVt1right HNt1 HD13 HTSt2 HTRt2]
  · isplitr; · iexact HC
    isplitl [HVt1right]; · iexact HVt1right
    isplitl [HNt1]; · iexact HNt1
    isplitr; · iempintro
    isplitl [HD13]; · iexact HD13
    isplitl [HTSt2]; · iexact HTSt2
    isplitr; · iapply (ready_get c (.rs true 2)); iexact Hr0
    isplitl [HTRt2]; · iexact HTRt2
    iapply (ready_get (sh 1 c) (.rr true 2)); iexact Hr1
  iintro ⟨HCst2, HD14⟩
  ihave Hp := (holds_halves (comm false 0) c (wHalf W (sh 2 c) false)).1 $$ HVf1full
  icases Hp with ⟨HVf1left, HVf1right⟩
  iapply (step_send X W κ c 3 (.rs false 2) (.rr false 2) (plan.drop 15) (comm false 0) (comm false 1) fullShare.right (wHalf W (sh 2 c) false) iprop(emp) (dev15 c) rfl rfl (by decide) (by decide) rfl rfl .rfl
    (pay_rr_false2 X W c)) $$ [HVf1right HNf1 HD14 HTSf2 HTRf2]
  · isplitr; · iexact HC
    isplitl [HVf1right]; · iexact HVf1right
    isplitl [HNf1]; · iexact HNf1
    isplitr; · iempintro
    isplitl [HD14]; · iexact HD14
    isplitl [HTSf2]; · iexact HTSf2
    isplitr; · iapply (ready_get c (.rs false 2)); iexact Hr0
    isplitl [HTRf2]; · iexact HTRf2
    iapply (ready_get (sh 3 c) (.rr false 2)); iexact Hr3
  iintro ⟨HCsf2, HD15⟩
  iapply (load_x X c) $$ HX
  iintro HX
  iapply (step_load c (commM true) rC0 (fun _ => rfl) squeezes_S1x4096x256_S4096x256 shapeCasts_S1x4096x256_S4096x256 fullShare.left (wHalf W (sh 2 c) true)) $$ HVt1left
  iintro %u %hu HVt1left
  iapply (step_load_free c bufM rT2l (fun _ => rfl) squeezes_S1x1024x256_S1024x256) $$ HY2l
  iintro %_ HY2l
  iapply (step_store c bufM rT2l (fun _ => rfl) squeezes_S1x1024x256_S1024x256 shapeCasts_S1x1024x256_S1024x256 (k0_pay5 (X c) u) (tileOf X W c (sh 2 c) true) (pay5_eq (X c) u _ hu)) $$ HY2l
  iintro HT2l
  iapply (load_x X c) $$ HX
  iintro HX
  rw [wp_ret]
  imodintro
  isplitr; · ipureintro; exact (pay6_eq (X c))
  isplitl [HVt1left]; · iexact HVt1left
  isplitl [HCst2]; · iexact HCst2
  isplitl [HVf1left]; · iexact HVf1left
  isplitl [HCsf2]; · iexact HCsf2
  isplitl [HD15]; · iexact HD15
  isplitl [HX]; · iexact HX
  iexact HT2l

theorem part10_wp (c : Dev nD) (a : BitVec 32) :
    iprop(ctx X W κ ∗ ready c ∗ ready (sh 1 c) ∗ ready (sh 2 c) ∗ ready (sh 3 c)
        ∗ holds (comm false 0) c fullShare.left (wHalf W (sh 2 c) false)
        ∗ free (tile2r bufM) c
        ∗ holds (tile2l bufM) c fullShare (tileOf X W c (sh 2 c) true)
        ∗ free (tile2 rxM) (sh 2 c)
        ∗ dutyTok ER (cell c (.ts 2)) 0 0
        ∗ dutyTok ER (cell (sh 2 c) (.tr 2)) 0 0
        ∗ debt c (plan.drop 15))
      ⊢ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c a (X c))
          (fun _ => iprop(holds (comm false 0) c fullShare.left (wHalf W (sh 2 c) false)
        ∗ cred (tallyAt (cell c (.ts 2)) false (amountOf (.ts 2)))
        ∗ debt c (plan.drop 16))) := by
  rw [k0_part10_eq_skeleton]
  unfold k0_part10_skel
  simp only [semSignalWord, semWaitWord, Prog.lift, Prog.bind_op, Prog.bind_ret, Prog.pure_eq_ret]
  iintro ⟨#HC, #Hr0, #Hr1, #Hr2, #Hr3, HVf1left, HY2r, HT2l, HZN2, HUS2, HUR2, HD15⟩
  iapply (step_load c (commM false) rC0 (fun _ => rfl) squeezes_S1x4096x256_S4096x256 shapeCasts_S1x4096x256_S4096x256 fullShare.left (wHalf W (sh 2 c) false)) $$ HVf1left
  iintro %u %hu HVf1left
  iapply (step_load_free c bufM rT2r (fun _ => rfl) squeezes_S1x1024x256_S1024x256) $$ HY2r
  iintro %_ HY2r
  iapply (step_store c bufM rT2r (fun _ => rfl) squeezes_S1x1024x256_S1024x256 shapeCasts_S1x1024x256_S1024x256 (k0_pay7 (X c) u) (tileOf X W c (sh 2 c) false) (pay7_eq (X c) u _ hu)) $$ HY2r
  iintro HT2r
  ihave HT2 := (mid_join c (tileOf X W c (sh 2 c) true) (tileOf X W c (sh 2 c) false)) $$ [HT2l HT2r]
  · isplitl [HT2l]; · iexact HT2l
    iexact HT2r
  iapply (step_send X W κ c 2 (.ts 2) (.tr 2) (plan.drop 16) (tile2 bufM) (tile2 rxM) fullShare (beside (tileOf X W c (sh 2 c) true) (tileOf X W c (sh 2 c) false)) iprop(emp) (dev16 c) rfl rfl (by decide) (by decide) rfl rfl .rfl
    (pay_tr2 X W c)) $$ [HT2 HZN2 HD15 HUS2 HUR2]
  · isplitr; · iexact HC
    isplitl [HT2]; · iexact HT2
    isplitl [HZN2]; · iexact HZN2
    isplitr; · iempintro
    isplitl [HD15]; · iexact HD15
    isplitl [HUS2]; · iexact HUS2
    isplitr; · iapply (ready_get c (.ts 2)); iexact Hr0
    isplitl [HUR2]; · iexact HUR2
    iapply (ready_get (sh 2 c) (.tr 2)); iexact Hr2
  iintro ⟨HEs2, HD16⟩
  rw [wp_ret]
  imodintro
  isplitl [HVf1left]; · iexact HVf1left
  isplitl [HEs2]; · iexact HEs2
  iexact HD16

end

end Cert.KernelIdealPf

end
-- ==== Proof.KernelIdealPf.PartsC.lean ====
/-
  The kernel's body, statement group by statement group (11 to 17): what each needs and leaves.
-/
module

public import proofs.«01_k».proof.Proof.KernelIdealPf.PartsB

@[expose] public section

set_option maxRecDepth 16384

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

section

variable (X : Dev nD → FVec F S1024x4096 .bf16) (W : Dev nD → FVec F S4096x512 .bf16) (κ : Dev nD × Cell → ℕ)

theorem part11_wp (c : Dev nD) (a b e : BitVec 32) :
    iprop(ctx X W κ ∗ ready c ∗ ready (sh 1 c) ∗ ready (sh 2 c) ∗ ready (sh 3 c)
        ∗ cred (tallyAt (cell c (.rr true 2)) false (amountOf (.rr true 2)))
        ∗ atPos ER (cell c (.rr true 2)) 0 ∅ 0
        ∗ debt c (plan.drop 16)
        ∗ cred (tallyAt (cell c (.rr false 2)) false (amountOf (.rr false 2)))
        ∗ atPos ER (cell c (.rr false 2)) 0 ∅ 0
        ∗ cred (tallyAt (cell c (.rs true 2)) false (amountOf (.rs true 2)))
        ∗ atPos ER (cell c (.rs true 2)) 0 ∅ 0)
      ⊢ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 a b e)
          (fun _ => iprop(atPos ER (cell c (.rr true 2)) 1 ∅ 0
        ∗ holds (comm true 1) c fullShare (wHalf W (sh 1 c) true)
        ∗ atPos ER (cell c (.rr false 2)) 1 ∅ 0
        ∗ holds (comm false 1) c fullShare (wHalf W (sh 3 c) false)
        ∗ debt c (plan.drop 16)
        ∗ atPos ER (cell c (.rs true 2)) 1 ∅ 0
        ∗ holds (comm true 0) c fullShare.right (wHalf W (sh 2 c) true))) := by
  rw [k0_part11_eq_skeleton]
  unfold k0_part11_skel
  simp only [semSignalWord, semWaitWord, Prog.lift, Prog.bind_op, Prog.bind_ret, Prog.pure_eq_ret]
  iintro ⟨#HC, #Hr0, #Hr1, #Hr2, #Hr3, HCrt2, HArt20, HD16, HCrf2, HArf20, HCst2, HAst20⟩
  iapply (step_wait_dma X W κ c (.rr true 2) (plan.drop 16) (dst := comm true 1) rfl rfl rfl (by decide)) $$ [HCrt2 HD16 HArt20]
  · isplitr; · iexact HC
    isplitl [HCrt2]; · iexact HCrt2
    isplitl [HD16]; · iexact HD16
    iexact HArt20
  iintro ⟨HD16, HArt21, Hp⟩
  ihave Hp := (got_rr_true2 X W c) $$ Hp
  icases Hp with ⟨HVt2full, -⟩
  iapply (step_wait_dma X W κ c (.rr false 2) (plan.drop 16) (dst := comm false 1) rfl rfl rfl (by decide)) $$ [HCrf2 HD16 HArf20]
  · isplitr; · iexact HC
    isplitl [HCrf2]; · iexact HCrf2
    isplitl [HD16]; · iexact HD16
    iexact HArf20
  iintro ⟨HD16, HArf21, Hp⟩
  ihave Hp := (got_rr_false2 X W c) $$ Hp
  icases Hp with ⟨HVf2full, -⟩
  iapply (step_wait_dma X W κ c (.rs true 2) (plan.drop 16) (dst := comm true 0) rfl rfl rfl (by decide)) $$ [HCst2 HD16 HAst20]
  · isplitr; · iexact HC
    isplitl [HCst2]; · iexact HCst2
    isplitl [HD16]; · iexact HD16
    iexact HAst20
  iintro ⟨HD16, HAst21, Hp⟩
  ihave HVt1right := (got_rs_true2 X W c) $$ Hp
  rw [wp_ret]
  imodintro
  isplitl [HArt21]; · iexact HArt21
  isplitl [HVt2full]; · iexact HVt2full
  isplitl [HArf21]; · iexact HArf21
  isplitl [HVf2full]; · iexact HVf2full
  isplitl [HD16]; · iexact HD16
  isplitl [HAst21]; · iexact HAst21
  iexact HVt1right

theorem part12_wp (c : Dev nD) (a : BitVec 32) :
    iprop(ctx X W κ ∗ ready c ∗ ready (sh 1 c) ∗ ready (sh 2 c) ∗ ready (sh 3 c)
        ∗ cred (tallyAt (cell c (.rs false 2)) false (amountOf (.rs false 2)))
        ∗ atPos ER (cell c (.rs false 2)) 0 ∅ 0
        ∗ debt c (plan.drop 16)
        ∗ xAt X c
        ∗ holds (comm true 1) c fullShare (wHalf W (sh 1 c) true)
        ∗ free (tile3 bufM) c
        ∗ holds (comm false 1) c fullShare (wHalf W (sh 3 c) false)
        ∗ free (tile4 bufM) c)
      ⊢ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 a)
          (fun _ => iprop(debt c (plan.drop 16)
        ∗ atPos ER (cell c (.rs false 2)) 1 ∅ 0
        ∗ holds (comm false 0) c fullShare.right (wHalf W (sh 2 c) false)
        ∗ xAt X c
        ∗ holds (comm true 1) c fullShare (wHalf W (sh 1 c) true)
        ∗ holds (tile3 bufM) c fullShare (tileOf X W c (sh 1 c) true)
        ∗ holds (comm false 1) c fullShare (wHalf W (sh 3 c) false)
        ∗ holds (tile4 bufM) c fullShare (tileOf X W c (sh 3 c) false))) := by
  rw [k0_part12_eq_skeleton]
  unfold k0_part12_skel
  simp only [semSignalWord, semWaitWord, Prog.lift, Prog.bind_op, Prog.bind_ret, Prog.pure_eq_ret]
  iintro ⟨#HC, #Hr0, #Hr1, #Hr2, #Hr3, HCsf2, HAsf20, HD16, HX, HVt2full, HY3, HVf2full, HY4⟩
  iapply (step_wait_dma X W κ c (.rs false 2) (plan.drop 16) (dst := comm false 0) rfl rfl rfl (by decide)) $$ [HCsf2 HD16 HAsf20]
  · isplitr; · iexact HC
    isplitl [HCsf2]; · iexact HCsf2
    isplitl [HD16]; · iexact HD16
    iexact HAsf20
  iintro ⟨HD16, HAsf21, Hp⟩
  ihave HVf1right := (got_rs_false2 X W c) $$ Hp
  iapply (load_x X c) $$ HX
  iintro HX
  iapply (step_load c (commM true) rC1 (fun _ => rfl) squeezes_S1x4096x256_S4096x256 shapeCasts_S1x4096x256_S4096x256 fullShare (wHalf W (sh 1 c) true)) $$ HVt2full
  iintro %u %hu HVt2full
  iapply (step_load_free c bufM rT3 (fun _ => rfl) squeezes_S1x1024x256_S1024x256) $$ HY3
  iintro %_ HY3
  iapply (step_store c bufM rT3 (fun _ => rfl) squeezes_S1x1024x256_S1024x256 shapeCasts_S1x1024x256_S1024x256 (k0_pay8 (X c) u) (tileOf X W c (sh 1 c) true) (pay8_eq (X c) u _ hu)) $$ HY3
  iintro HT3
  iapply (load_x X c) $$ HX
  iintro HX
  iapply (step_load c (commM false) rC1 (fun _ => rfl) squeezes_S1x4096x256_S4096x256 shapeCasts_S1x4096x256_S4096x256 fullShare (wHalf W (sh 3 c) false)) $$ HVf2full
  iintro %u' %hu' HVf2full
  iapply (step_load_free c bufM rT4 (fun _ => rfl) squeezes_S1x1024x256_S1024x256) $$ HY4
  iintro %_ HY4
  iapply (step_store c bufM rT4 (fun _ => rfl) squeezes_S1x1024x256_S1024x256 shapeCasts_S1x1024x256_S1024x256 (k0_pay9 (X c) u') (tileOf X W c (sh 3 c) false) (pay9_eq (X c) u' _ hu')) $$ HY4
  iintro HT4
  rw [wp_ret]
  imodintro
  isplitl [HD16]; · iexact HD16
  isplitl [HAsf21]; · iexact HAsf21
  isplitl [HVf1right]; · iexact HVf1right
  isplitl [HX]; · iexact HX
  isplitl [HVt2full]; · iexact HVt2full
  isplitl [HT3]; · iexact HT3
  isplitl [HVf2full]; · iexact HVf2full
  iexact HT4

theorem part13_wp (c : Dev nD) (a b e : BitVec 32) (x y : BitVec 1) :
    iprop(ctx X W κ ∗ ready c ∗ ready (sh 1 c) ∗ ready (sh 2 c) ∗ ready (sh 3 c)
        ∗ holds (tile3 bufM) c fullShare (tileOf X W c (sh 1 c) true)
        ∗ free (tile3 rxM) (sh 1 c)
        ∗ dutyTok ER (cell c (.ts 3)) 0 0
        ∗ dutyTok ER (cell (sh 1 c) (.tr 3)) 0 0
        ∗ debt c (plan.drop 16))
      ⊢ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c a b e x y)
          (fun _ => iprop(cred (tallyAt (cell c (.ts 3)) false (amountOf (.ts 3)))
        ∗ debt c (plan.drop 17))) := by
  rw [k0_part13_eq_skeleton]
  unfold k0_part13_skel
  simp only [semSignalWord, semWaitWord, Prog.lift, Prog.bind_op, Prog.bind_ret, Prog.pure_eq_ret]
  iintro ⟨#HC, #Hr0, #Hr1, #Hr2, #Hr3, HT3, HZN3, HUS3, HUR3, HD16⟩
  iapply (step_send X W κ c 1 (.ts 3) (.tr 3) (plan.drop 17) (tile3 bufM) (tile3 rxM) fullShare (tileOf X W c (sh 1 c) true) iprop(emp) (dev17 c) rfl rfl (by decide) (by decide) rfl rfl .rfl
    (pay_tr3 X W c)) $$ [HT3 HZN3 HD16 HUS3 HUR3]
  · isplitr; · iexact HC
    isplitl [HT3]; · iexact HT3
    isplitl [HZN3]; · iexact HZN3
    isplitr; · iempintro
    isplitl [HD16]; · iexact HD16
    isplitl [HUS3]; · iexact HUS3
    isplitr; · iapply (ready_get c (.ts 3)); iexact Hr0
    isplitl [HUR3]; · iexact HUR3
    iapply (ready_get (sh 1 c) (.tr 3)); iexact Hr1
  iintro ⟨HEs3, HD17⟩
  rw [wp_ret]
  imodintro
  isplitl [HEs3]; · iexact HEs3
  iexact HD17

theorem part14_wp (c : Dev nD) (a : BitVec 32) :
    iprop(ctx X W κ ∗ ready c ∗ ready (sh 1 c) ∗ ready (sh 2 c) ∗ ready (sh 3 c)
        ∗ holds (tile4 bufM) c fullShare (tileOf X W c (sh 3 c) false)
        ∗ free (tile4 rxM) (sh 3 c)
        ∗ dutyTok ER (cell c (.ts 4)) 0 0
        ∗ dutyTok ER (cell (sh 3 c) (.tr 4)) 0 0
        ∗ debt c (plan.drop 17)
        ∗ cred (tallyAt (cell c (.ts 0)) false (amountOf (.ts 0)))
        ∗ atPos ER (cell c (.ts 0)) 0 ∅ 0
        ∗ cred (tallyAt (cell c (.tr 0)) false (amountOf (.tr 0)))
        ∗ atPos ER (cell c (.tr 0)) 0 ∅ 0
        ∗ cred (tallyAt (cell c (.ts 1)) false (amountOf (.ts 1)))
        ∗ atPos ER (cell c (.ts 1)) 0 ∅ 0)
      ⊢ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c a)
          (fun _ => iprop(cred (tallyAt (cell c (.ts 4)) false (amountOf (.ts 4)))
        ∗ atPos ER (cell c (.ts 0)) 1 ∅ 0
        ∗ holds (tile0 bufM) c fullShare (tileOf X W c (sh 3 c) true)
        ∗ atPos ER (cell c (.tr 0)) 1 ∅ 0
        ∗ holds (tile0 rxM) c fullShare (tileOf X W (sh 1 c) c true)
        ∗ debt c (plan.drop 18)
        ∗ atPos ER (cell c (.ts 1)) 1 ∅ 0
        ∗ holds (tile1 bufM) c fullShare (tileOf X W c (sh 1 c) false))) := by
  rw [k0_part14_eq_skeleton]
  unfold k0_part14_skel
  simp only [semSignalWord, semWaitWord, Prog.lift, Prog.bind_op, Prog.bind_ret, Prog.pure_eq_ret]
  iintro ⟨#HC, #Hr0, #Hr1, #Hr2, #Hr3, HT4, HZN4, HUS4, HUR4, HD17, HEs0, HBs00, HEr0, HBr00, HEs1, HBs10⟩
  iapply (step_send X W κ c 3 (.ts 4) (.tr 4) (plan.drop 18) (tile4 bufM) (tile4 rxM) fullShare (tileOf X W c (sh 3 c) false) iprop(emp) (dev18 c) rfl rfl (by decide) (by decide) rfl rfl .rfl
    (pay_tr4 X W c)) $$ [HT4 HZN4 HD17 HUS4 HUR4]
  · isplitr; · iexact HC
    isplitl [HT4]; · iexact HT4
    isplitl [HZN4]; · iexact HZN4
    isplitr; · iempintro
    isplitl [HD17]; · iexact HD17
    isplitl [HUS4]; · iexact HUS4
    isplitr; · iapply (ready_get c (.ts 4)); iexact Hr0
    isplitl [HUR4]; · iexact HUR4
    iapply (ready_get (sh 3 c) (.tr 4)); iexact Hr3
  iintro ⟨HEs4, HD18⟩
  iapply (step_wait_dma X W κ c (.ts 0) (plan.drop 18) (dst := tile0 bufM) rfl rfl rfl (by decide)) $$ [HEs0 HD18 HBs00]
  · isplitr; · iexact HC
    isplitl [HEs0]; · iexact HEs0
    isplitl [HD18]; · iexact HD18
    iexact HBs00
  iintro ⟨HD18, HBs01, Hp⟩
  ihave HT0 := (got_ts0 X W c) $$ Hp
  iapply (step_wait_dma X W κ c (.tr 0) (plan.drop 18) (dst := tile0 rxM) rfl rfl rfl (by decide)) $$ [HEr0 HD18 HBr00]
  · isplitr; · iexact HC
    isplitl [HEr0]; · iexact HEr0
    isplitl [HD18]; · iexact HD18
    iexact HBr00
  iintro ⟨HD18, HBr01, Hp⟩
  ihave HR0 := (got_tr0 X W c) $$ Hp
  iapply (step_wait_dma X W κ c (.ts 1) (plan.drop 18) (dst := tile0 bufM) rfl rfl rfl (by decide)) $$ [HEs1 HD18 HBs10]
  · isplitr; · iexact HC
    isplitl [HEs1]; · iexact HEs1
    isplitl [HD18]; · iexact HD18
    iexact HBs10
  iintro ⟨HD18, HBs11, Hp⟩
  ihave HT1 := (got_ts1 X W c) $$ Hp
  rw [wp_ret]
  imodintro
  isplitl [HEs4]; · iexact HEs4
  isplitl [HBs01]; · iexact HBs01
  isplitl [HT0]; · iexact HT0
  isplitl [HBr01]; · iexact HBr01
  isplitl [HR0]; · iexact HR0
  isplitl [HD18]; · iexact HD18
  isplitl [HBs11]; · iexact HBs11
  iexact HT1

theorem part15_wp (c : Dev nD) (a b : BitVec 32) :
    iprop(ctx X W κ ∗ ready c ∗ ready (sh 1 c) ∗ ready (sh 2 c) ∗ ready (sh 3 c)
        ∗ cred (tallyAt (cell c (.tr 1)) false (amountOf (.tr 1)))
        ∗ atPos ER (cell c (.tr 1)) 0 ∅ 0
        ∗ debt c (plan.drop 18)
        ∗ cred (tallyAt (cell c (.ts 2)) false (amountOf (.ts 2)))
        ∗ atPos ER (cell c (.ts 2)) 0 ∅ 0
        ∗ cred (tallyAt (cell c (.tr 2)) false (amountOf (.tr 2)))
        ∗ atPos ER (cell c (.tr 2)) 0 ∅ 0)
      ⊢ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 a b)
          (fun _ => iprop(atPos ER (cell c (.tr 1)) 1 ∅ 0
        ∗ holds (tile1 rxM) c fullShare (tileOf X W (sh 3 c) c false)
        ∗ atPos ER (cell c (.ts 2)) 1 ∅ 0
        ∗ holds (tile2 bufM) c fullShare (beside (tileOf X W c (sh 2 c) true) (tileOf X W c (sh 2 c) false))
        ∗ debt c (plan.drop 18)
        ∗ atPos ER (cell c (.tr 2)) 1 ∅ 0
        ∗ holds (tile2 rxM) c fullShare (beside (tileOf X W (sh 2 c) c true) (tileOf X W (sh 2 c) c false)))) := by
  rw [k0_part15_eq_skeleton]
  unfold k0_part15_skel
  simp only [semSignalWord, semWaitWord, Prog.lift, Prog.bind_op, Prog.bind_ret, Prog.pure_eq_ret]
  iintro ⟨#HC, #Hr0, #Hr1, #Hr2, #Hr3, HEr1, HBr10, HD18, HEs2, HBs20, HEr2, HBr20⟩
  iapply (step_wait_dma X W κ c (.tr 1) (plan.drop 18) (dst := tile1 rxM) rfl rfl rfl (by decide)) $$ [HEr1 HD18 HBr10]
  · isplitr; · iexact HC
    isplitl [HEr1]; · iexact HEr1
    isplitl [HD18]; · iexact HD18
    iexact HBr10
  iintro ⟨HD18, HBr11, Hp⟩
  ihave HR1 := (got_tr1 X W c) $$ Hp
  iapply (step_wait_dma X W κ c (.ts 2) (plan.drop 18) (dst := ((bufM.slice (Rect.unit (s := S3x1024x512) ![0, 0, 0] S1x1024x512.size inb_S3x1024x512_S1x1024x512_0_0_0) (fun _ => rfl)).squeeze S1024x512 squeezes_S1x1024x512_S1024x512)) rfl rfl rfl (by decide)) $$ [HEs2 HD18 HBs20]
  · isplitr; · iexact HC
    isplitl [HEs2]; · iexact HEs2
    isplitl [HD18]; · iexact HD18
    iexact HBs20
  iintro ⟨HD18, HBs21, Hp⟩
  ihave HT2 := (got_ts2 X W c) $$ Hp
  iapply (step_wait_dma X W κ c (.tr 2) (plan.drop 18) (dst := tile2 rxM) rfl rfl rfl (by decide)) $$ [HEr2 HD18 HBr20]
  · isplitr; · iexact HC
    isplitl [HEr2]; · iexact HEr2
    isplitl [HD18]; · iexact HD18
    iexact HBr20
  iintro ⟨HD18, HBr21, Hp⟩
  ihave HR2 := (got_tr2 X W c) $$ Hp
  rw [wp_ret]
  imodintro
  isplitl [HBr11]; · iexact HBr11
  isplitl [HR1]; · iexact HR1
  isplitl [HBs21]; · iexact HBs21
  isplitl [HT2]; · iexact HT2
  isplitl [HD18]; · iexact HD18
  isplitl [HBr21]; · iexact HBr21
  iexact HR2

theorem part16_wp (c : Dev nD) (a b : BitVec 32) :
    iprop(ctx X W κ ∗ ready c ∗ ready (sh 1 c) ∗ ready (sh 2 c) ∗ ready (sh 3 c)
        ∗ cred (tallyAt (cell c (.ts 3)) false (amountOf (.ts 3)))
        ∗ atPos ER (cell c (.ts 3)) 0 ∅ 0
        ∗ debt c (plan.drop 18)
        ∗ cred (tallyAt (cell c (.tr 3)) false (amountOf (.tr 3)))
        ∗ atPos ER (cell c (.tr 3)) 0 ∅ 0
        ∗ cred (tallyAt (cell c (.ts 4)) false (amountOf (.ts 4)))
        ∗ atPos ER (cell c (.ts 4)) 0 ∅ 0
        ∗ cred (tallyAt (cell c (.tr 4)) false (amountOf (.tr 4)))
        ∗ atPos ER (cell c (.tr 4)) 0 ∅ 0)
      ⊢ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 a b)
          (fun _ => iprop(atPos ER (cell c (.ts 3)) 1 ∅ 0
        ∗ holds (tile3 bufM) c fullShare (tileOf X W c (sh 1 c) true)
        ∗ atPos ER (cell c (.tr 3)) 1 ∅ 0
        ∗ holds (tile3 rxM) c fullShare (tileOf X W (sh 3 c) c true)
        ∗ atPos ER (cell c (.ts 4)) 1 ∅ 0
        ∗ holds (tile4 bufM) c fullShare (tileOf X W c (sh 3 c) false)
        ∗ debt c (plan.drop 18)
        ∗ atPos ER (cell c (.tr 4)) 1 ∅ 0
        ∗ holds (tile4 rxM) c fullShare (tileOf X W (sh 1 c) c false))) := by
  rw [k0_part16_eq_skeleton]
  unfold k0_part16_skel
  simp only [semSignalWord, semWaitWord, Prog.lift, Prog.bind_op, Prog.bind_ret, Prog.pure_eq_ret]
  iintro ⟨#HC, #Hr0, #Hr1, #Hr2, #Hr3, HEs3, HBs30, HD18, HEr3, HBr30, HEs4, HBs40, HEr4, HBr40⟩
  iapply (step_wait_dma X W κ c (.ts 3) (plan.drop 18) (dst := tile0 bufM) rfl rfl rfl (by decide)) $$ [HEs3 HD18 HBs30]
  · isplitr; · iexact HC
    isplitl [HEs3]; · iexact HEs3
    isplitl [HD18]; · iexact HD18
    iexact HBs30
  iintro ⟨HD18, HBs31, Hp⟩
  ihave HT3 := (got_ts3 X W c) $$ Hp
  iapply (step_wait_dma X W κ c (.tr 3) (plan.drop 18) (dst := tile3 rxM) rfl rfl rfl (by decide)) $$ [HEr3 HD18 HBr30]
  · isplitr; · iexact HC
    isplitl [HEr3]; · iexact HEr3
    isplitl [HD18]; · iexact HD18
    iexact HBr30
  iintro ⟨HD18, HBr31, Hp⟩
  ihave HR3 := (got_tr3 X W c) $$ Hp
  iapply (step_wait_dma X W κ c (.ts 4) (plan.drop 18) (dst := tile0 bufM) rfl rfl rfl (by decide)) $$ [HEs4 HD18 HBs40]
  · isplitr; · iexact HC
    isplitl [HEs4]; · iexact HEs4
    isplitl [HD18]; · iexact HD18
    iexact HBs40
  iintro ⟨HD18, HBs41, Hp⟩
  ihave HT4 := (got_ts4 X W c) $$ Hp
  iapply (step_wait_dma X W κ c (.tr 4) (plan.drop 18) (dst := tile4 rxM) rfl rfl rfl (by decide)) $$ [HEr4 HD18 HBr40]
  · isplitr; · iexact HC
    isplitl [HEr4]; · iexact HEr4
    isplitl [HD18]; · iexact HD18
    iexact HBr40
  iintro ⟨HD18, HBr41, Hp⟩
  ihave HR4 := (got_tr4 X W c) $$ Hp
  rw [wp_ret]
  imodintro
  isplitl [HBs31]; · iexact HBs31
  isplitl [HT3]; · iexact HT3
  isplitl [HBr31]; · iexact HBr31
  isplitl [HR3]; · iexact HR3
  isplitl [HBs41]; · iexact HBs41
  isplitl [HT4]; · iexact HT4
  isplitl [HD18]; · iexact HD18
  isplitl [HBr41]; · iexact HBr41
  iexact HR4

theorem part17_wp (c : Dev nD) (g : FVec F S4096x512 .f32) (a b e : BitVec 32) :
    iprop(ctx X W κ ∗ ready c ∗ ready (sh 1 c) ∗ ready (sh 2 c) ∗ ready (sh 3 c)
        ∗ holds (tile0 rxM) c fullShare (tileOf X W (sh 1 c) c true)
        ∗ oAt c g [pc1 X W c]
        ∗ holds (tile1 rxM) c fullShare (tileOf X W (sh 3 c) c false)
        ∗ holds (tile2 rxM) c fullShare (beside (tileOf X W (sh 2 c) c true) (tileOf X W (sh 2 c) c false))
        ∗ holds (tile3 rxM) c fullShare (tileOf X W (sh 3 c) c true)
        ∗ holds (tile4 rxM) c fullShare (tileOf X W (sh 1 c) c false))
      ⊢ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c a b e)
          (fun _ => iprop(holds (tile0 rxM) c fullShare (tileOf X W (sh 1 c) c true)
        ∗ holds (tile1 rxM) c fullShare (tileOf X W (sh 3 c) c false)
        ∗ holds (tile2 rxM) c fullShare (beside (tileOf X W (sh 2 c) c true) (tileOf X W (sh 2 c) c false))
        ∗ holds (tile3 rxM) c fullShare (tileOf X W (sh 3 c) c true)
        ∗ holds (tile4 rxM) c fullShare (tileOf X W (sh 1 c) c false)
        ∗ oAt c g [pc6 X W c, pc5 X W c, pc4 X W c, pc3 X W c, pc2 X W c, pc1 X W c])) := by
  rw [k0_part17_eq_skeleton]
  unfold k0_part17_skel
  simp only [semSignalWord, semWaitWord, Prog.lift, Prog.bind_op, Prog.bind_ret, Prog.pure_eq_ret]
  iintro ⟨#HC, #Hr0, #Hr1, #Hr2, #Hr3, HR0, HO1, HR1, HR2, HR3, HR4⟩
  iapply (step_load c rxM rT0 (fun _ => rfl) squeezes_S1x1024x256_S1024x256 shapeCasts_S1x1024x256_S1024x256 fullShare (tileOf X W (sh 1 c) c true)) $$ HR0
  iintro %u0 %hu0 HR0
  iapply (load_o c g [pc1 X W c]) $$ HO1
  iintro %_ HO1
  iapply (store_o c g [pc1 X W c] (Rect.unit (s := S4096x512) (k0_off2 c) S1024x256.size (k0_off2_inb c)) (k0_pay10 u0) (extf .f32 (tileOf X W (sh 1 c) c true) bitsLt_bf16_f32) (pay10_eq u0 _ hu0)) $$ HO1
  iintro HO2
  iapply (step_load c rxM rT1 (fun _ => rfl) squeezes_S1x1024x256_S1024x256 shapeCasts_S1x1024x256_S1024x256 fullShare (tileOf X W (sh 3 c) c false)) $$ HR1
  iintro %u1 %hu1 HR1
  iapply (load_o c g [pc2 X W c, pc1 X W c]) $$ HO2
  iintro %_ HO2
  iapply (store_o c g [pc2 X W c, pc1 X W c] (Rect.unit (s := S4096x512) (k0_off3 c) S1024x256.size (k0_off3_inb c)) (k0_pay11 u1) (extf .f32 (tileOf X W (sh 3 c) c false) bitsLt_bf16_f32) (pay11_eq u1 _ hu1)) $$ HO2
  iintro HO3
  iapply (step_load c rxM rT2 (fun _ => rfl) squeezes_S1x1024x512_S1024x512 shapeCasts_S1x1024x512_S1024x512 fullShare (beside (tileOf X W (sh 2 c) c true) (tileOf X W (sh 2 c) c false))) $$ HR2
  iintro %u2 %hu2 HR2
  iapply (load_o c g [pc3 X W c, pc2 X W c, pc1 X W c]) $$ HO3
  iintro %_ HO3
  iapply (store_o c g [pc3 X W c, pc2 X W c, pc1 X W c] (Rect.unit (s := S4096x512) (k0_off4 c) S1024x512.size (k0_off4_inb c)) (k0_pay12 u2) (extf .f32 (beside (tileOf X W (sh 2 c) c true) (tileOf X W (sh 2 c) c false)) bitsLt_bf16_f32) (pay12_eq u2 _ hu2)) $$ HO3
  iintro HO4
  iapply (step_load c rxM rT3 (fun _ => rfl) squeezes_S1x1024x256_S1024x256 shapeCasts_S1x1024x256_S1024x256 fullShare (tileOf X W (sh 3 c) c true)) $$ HR3
  iintro %u3 %hu3 HR3
  iapply (load_o c g [pc4 X W c, pc3 X W c, pc2 X W c, pc1 X W c]) $$ HO4
  iintro %_ HO4
  iapply (store_o c g [pc4 X W c, pc3 X W c, pc2 X W c, pc1 X W c] (Rect.unit (s := S4096x512) (k0_off5 c) S1024x256.size (k0_off5_inb c)) (k0_pay13 u3) (extf .f32 (tileOf X W (sh 3 c) c true) bitsLt_bf16_f32) (pay13_eq u3 _ hu3)) $$ HO4
  iintro HO5
  iapply (step_load c rxM rT4 (fun _ => rfl) squeezes_S1x1024x256_S1024x256 shapeCasts_S1x1024x256_S1024x256 fullShare (tileOf X W (sh 1 c) c false)) $$ HR4
  iintro %u4 %hu4 HR4
  iapply (load_o c g [pc5 X W c, pc4 X W c, pc3 X W c, pc2 X W c, pc1 X W c]) $$ HO5
  iintro %_ HO5
  iapply (store_o c g [pc5 X W c, pc4 X W c, pc3 X W c, pc2 X W c, pc1 X W c] (Rect.unit (s := S4096x512) (k0_off6 c) S1024x256.size (k0_off6_inb c)) (k0_pay14 u4) (extf .f32 (tileOf X W (sh 1 c) c false) bitsLt_bf16_f32) (pay14_eq u4 _ hu4)) $$ HO5
  iintro HO6
  rw [wp_ret]
  imodintro
  isplitl [HR0]; · iexact HR0
  isplitl [HR1]; · iexact HR1
  isplitl [HR2]; · iexact HR2
  isplitl [HR3]; · iexact HR3
  isplitl [HR4]; · iexact HR4
  iexact HO6

end

end Cert.KernelIdealPf

end
-- ==== Proof.KernelIdealPf.Body.lean ====
/-
  The kernel's body on one device as a whole: what it starts with, what it leaves, and that the parts compose.
-/
module

public import proofs.«01_k».proof.Proof.KernelIdealPf.PartsC

@[expose] public section

set_option maxRecDepth 16384

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## What the body starts with, and ends at, cell by cell -/

/-- The rounds a cell goes through. -/
def lastOf : Cell → ℕ
  | .cr _ => 2
  | _ => 1

/-- The duties a device pays: the shift of the device paid, the cell, the round, the duty. -/
def tokAt : Fin 29 → Fin 4 × Cell × ℕ × Fin 3 := ![
  (3, .bar, 0, 0),
  (1, .bar, 0, 1),
  (2, .bar, 0, 2),
  (0, (.rs true 0), 0, 0),
  (1, (.rr true 0), 0, 0),
  (0, (.rs false 0), 0, 0),
  (3, (.rr false 0), 0, 0),
  (3, (.cr true), 0, 0),
  (1, (.cr false), 0, 0),
  (0, (.rs true 1), 0, 0),
  (1, (.rr true 1), 0, 0),
  (0, (.rs false 1), 0, 0),
  (3, (.rr false 1), 0, 0),
  (0, (.ts 0), 0, 0),
  (3, (.tr 0), 0, 0),
  (0, (.ts 1), 0, 0),
  (1, (.tr 1), 0, 0),
  (3, (.cr true), 1, 0),
  (1, (.cr false), 1, 0),
  (0, (.rs true 2), 0, 0),
  (1, (.rr true 2), 0, 0),
  (0, (.rs false 2), 0, 0),
  (3, (.rr false 2), 0, 0),
  (0, (.ts 2), 0, 0),
  (2, (.tr 2), 0, 0),
  (0, (.ts 3), 0, 0),
  (1, (.tr 3), 0, 0),
  (0, (.ts 4), 0, 0),
  (3, (.tr 4), 0, 0)]

/-- The credits a device is launched with: the cell, the index, the amount. -/
def credAt : Fin 16 → Cell × Bool × ℕ := ![
  (.bar, false, 3),
  ((.rr true 0), false, (amountOf (.rr true 0))),
  ((.rr false 0), false, (amountOf (.rr false 0))),
  ((.cr true), false, 1),
  ((.cr false), false, 1),
  ((.rr true 1), false, (amountOf (.rr true 1))),
  ((.rr false 1), false, (amountOf (.rr false 1))),
  ((.cr true), true, 1),
  ((.cr false), true, 1),
  ((.rr true 2), false, (amountOf (.rr true 2))),
  ((.rr false 2), false, (amountOf (.rr false 2))),
  ((.tr 0), false, (amountOf (.tr 0))),
  ((.tr 1), false, (amountOf (.tr 1))),
  ((.tr 2), false, (amountOf (.tr 2))),
  ((.tr 3), false, (amountOf (.tr 3))),
  ((.tr 4), false, (amountOf (.tr 4)))]

/-- The tokens of the duties device `c` pays. -/
def toks (c : Dev nD) : sProp (MM F) := bigSep Finset.univ fun j : Fin 29 =>
  dutyTok ER (cell (sh (tokAt j).1 c) (tokAt j).2.1) (tokAt j).2.2.1 (tokAt j).2.2.2

/-- The credits of device `c`. -/
def creds (c : Dev nD) : sProp (MM F) := bigSep Finset.univ fun j : Fin 16 =>
  cred (tallyAt (cell c (credAt j).1) (credAt j).2.1 (credAt j).2.2)

/-- Device `c` is at round `r k` of each of its cells `k`. -/
def poss (c : Dev nD) (r : Cell → ℕ) : sProp (MM F) := bigSep Finset.univ fun k : Cell => atPos ER (cell c k) (r k) ∅ 0

/-- All counters of device `c`'s cells are at zero. -/
def zeros (c : Dev nD) : sProp (MM F) := bigSep Finset.univ fun k : Cell => semVal (cell c k) 0

theorem toks_list (c : Dev nD) : (toks c : sProp (MM F)) ⊢ iprop(dutyTok ER (cell (sh 3 c) .bar) 0 0
    ∗ dutyTok ER (cell (sh 1 c) .bar) 0 1
    ∗ dutyTok ER (cell (sh 2 c) .bar) 0 2
    ∗ dutyTok ER (cell c (.rs true 0)) 0 0
    ∗ dutyTok ER (cell (sh 1 c) (.rr true 0)) 0 0
    ∗ dutyTok ER (cell c (.rs false 0)) 0 0
    ∗ dutyTok ER (cell (sh 3 c) (.rr false 0)) 0 0
    ∗ dutyTok ER (cell (sh 3 c) (.cr true)) 0 0
    ∗ dutyTok ER (cell (sh 1 c) (.cr false)) 0 0
    ∗ dutyTok ER (cell c (.rs true 1)) 0 0
    ∗ dutyTok ER (cell (sh 1 c) (.rr true 1)) 0 0
    ∗ dutyTok ER (cell c (.rs false 1)) 0 0
    ∗ dutyTok ER (cell (sh 3 c) (.rr false 1)) 0 0
    ∗ dutyTok ER (cell c (.ts 0)) 0 0
    ∗ dutyTok ER (cell (sh 3 c) (.tr 0)) 0 0
    ∗ dutyTok ER (cell c (.ts 1)) 0 0
    ∗ dutyTok ER (cell (sh 1 c) (.tr 1)) 0 0
    ∗ dutyTok ER (cell (sh 3 c) (.cr true)) 1 0
    ∗ dutyTok ER (cell (sh 1 c) (.cr false)) 1 0
    ∗ dutyTok ER (cell c (.rs true 2)) 0 0
    ∗ dutyTok ER (cell (sh 1 c) (.rr true 2)) 0 0
    ∗ dutyTok ER (cell c (.rs false 2)) 0 0
    ∗ dutyTok ER (cell (sh 3 c) (.rr false 2)) 0 0
    ∗ dutyTok ER (cell c (.ts 2)) 0 0
    ∗ dutyTok ER (cell (sh 2 c) (.tr 2)) 0 0
    ∗ dutyTok ER (cell c (.ts 3)) 0 0
    ∗ dutyTok ER (cell (sh 1 c) (.tr 3)) 0 0
    ∗ dutyTok ER (cell c (.ts 4)) 0 0
    ∗ dutyTok ER (cell (sh 3 c) (.tr 4)) 0 0) := by
  unfold toks
  rw [bigSep_univ_eq_bigSepL [0, 1, 2, 3, 4, 5, 6, 7, 8, 9, 10, 11, 12, 13, 14, 15, 16, 17, 18, 19, 20, 21, 22, 23, 24, 25, 26, 27, 28] (by decide) (by decide)]
  show iprop(dutyTok ER (cell (sh 3 c) .bar) 0 0
    ∗ dutyTok ER (cell (sh 1 c) .bar) 0 1
    ∗ dutyTok ER (cell (sh 2 c) .bar) 0 2
    ∗ dutyTok ER (cell (sh 0 c) (.rs true 0)) 0 0
    ∗ dutyTok ER (cell (sh 1 c) (.rr true 0)) 0 0
    ∗ dutyTok ER (cell (sh 0 c) (.rs false 0)) 0 0
    ∗ dutyTok ER (cell (sh 3 c) (.rr false 0)) 0 0
    ∗ dutyTok ER (cell (sh 3 c) (.cr true)) 0 0
    ∗ dutyTok ER (cell (sh 1 c) (.cr false)) 0 0
    ∗ dutyTok ER (cell (sh 0 c) (.rs true 1)) 0 0
    ∗ dutyTok ER (cell (sh 1 c) (.rr true 1)) 0 0
    ∗ dutyTok ER (cell (sh 0 c) (.rs false 1)) 0 0
    ∗ dutyTok ER (cell (sh 3 c) (.rr false 1)) 0 0
    ∗ dutyTok ER (cell (sh 0 c) (.ts 0)) 0 0
    ∗ dutyTok ER (cell (sh 3 c) (.tr 0)) 0 0
    ∗ dutyTok ER (cell (sh 0 c) (.ts 1)) 0 0
    ∗ dutyTok ER (cell (sh 1 c) (.tr 1)) 0 0
    ∗ dutyTok ER (cell (sh 3 c) (.cr true)) 1 0
    ∗ dutyTok ER (cell (sh 1 c) (.cr false)) 1 0
    ∗ dutyTok ER (cell (sh 0 c) (.rs true 2)) 0 0
    ∗ dutyTok ER (cell (sh 1 c) (.rr true 2)) 0 0
    ∗ dutyTok ER (cell (sh 0 c) (.rs false 2)) 0 0
    ∗ dutyTok ER (cell (sh 3 c) (.rr false 2)) 0 0
    ∗ dutyTok ER (cell (sh 0 c) (.ts 2)) 0 0
    ∗ dutyTok ER (cell (sh 2 c) (.tr 2)) 0 0
    ∗ dutyTok ER (cell (sh 0 c) (.ts 3)) 0 0
    ∗ dutyTok ER (cell (sh 1 c) (.tr 3)) 0 0
    ∗ dutyTok ER (cell (sh 0 c) (.ts 4)) 0 0
    ∗ dutyTok ER (cell (sh 3 c) (.tr 4)) 0 0) ⊢ _
  rw [sh_zero]

theorem creds_list (c : Dev nD) : (creds c : sProp (MM F)) ⊢ iprop(cred (tallyAt (cell c .bar) false 3)
    ∗ cred (tallyAt (cell c (.rr true 0)) false (amountOf (.rr true 0)))
    ∗ cred (tallyAt (cell c (.rr false 0)) false (amountOf (.rr false 0)))
    ∗ cred (tallyAt (cell c (.cr true)) false 1)
    ∗ cred (tallyAt (cell c (.cr false)) false 1)
    ∗ cred (tallyAt (cell c (.rr true 1)) false (amountOf (.rr true 1)))
    ∗ cred (tallyAt (cell c (.rr false 1)) false (amountOf (.rr false 1)))
    ∗ cred (tallyAt (cell c (.cr true)) true 1)
    ∗ cred (tallyAt (cell c (.cr false)) true 1)
    ∗ cred (tallyAt (cell c (.rr true 2)) false (amountOf (.rr true 2)))
    ∗ cred (tallyAt (cell c (.rr false 2)) false (amountOf (.rr false 2)))
    ∗ cred (tallyAt (cell c (.tr 0)) false (amountOf (.tr 0)))
    ∗ cred (tallyAt (cell c (.tr 1)) false (amountOf (.tr 1)))
    ∗ cred (tallyAt (cell c (.tr 2)) false (amountOf (.tr 2)))
    ∗ cred (tallyAt (cell c (.tr 3)) false (amountOf (.tr 3)))
    ∗ cred (tallyAt (cell c (.tr 4)) false (amountOf (.tr 4)))) := by
  unfold creds
  rw [bigSep_univ_eq_bigSepL [0, 1, 2, 3, 4, 5, 6, 7, 8, 9, 10, 11, 12, 13, 14, 15] (by decide) (by decide)]
  exact .rfl

theorem poss_list (c : Dev nD) (r : Cell → ℕ) : (poss c r : sProp (MM F)) = iprop(atPos ER (cell c .bar) (r .bar) ∅ 0
    ∗ atPos ER (cell c (.cr true)) (r (.cr true)) ∅ 0
    ∗ atPos ER (cell c (.cr false)) (r (.cr false)) ∅ 0
    ∗ atPos ER (cell c (.rs true 0)) (r (.rs true 0)) ∅ 0
    ∗ atPos ER (cell c (.rs true 1)) (r (.rs true 1)) ∅ 0
    ∗ atPos ER (cell c (.rs true 2)) (r (.rs true 2)) ∅ 0
    ∗ atPos ER (cell c (.rr true 0)) (r (.rr true 0)) ∅ 0
    ∗ atPos ER (cell c (.rr true 1)) (r (.rr true 1)) ∅ 0
    ∗ atPos ER (cell c (.rr true 2)) (r (.rr true 2)) ∅ 0
    ∗ atPos ER (cell c (.rs false 0)) (r (.rs false 0)) ∅ 0
    ∗ atPos ER (cell c (.rs false 1)) (r (.rs false 1)) ∅ 0
    ∗ atPos ER (cell c (.rs false 2)) (r (.rs false 2)) ∅ 0
    ∗ atPos ER (cell c (.rr false 0)) (r (.rr false 0)) ∅ 0
    ∗ atPos ER (cell c (.rr false 1)) (r (.rr false 1)) ∅ 0
    ∗ atPos ER (cell c (.rr false 2)) (r (.rr false 2)) ∅ 0
    ∗ atPos ER (cell c (.ts 0)) (r (.ts 0)) ∅ 0
    ∗ atPos ER (cell c (.ts 1)) (r (.ts 1)) ∅ 0
    ∗ atPos ER (cell c (.ts 2)) (r (.ts 2)) ∅ 0
    ∗ atPos ER (cell c (.ts 3)) (r (.ts 3)) ∅ 0
    ∗ atPos ER (cell c (.ts 4)) (r (.ts 4)) ∅ 0
    ∗ atPos ER (cell c (.tr 0)) (r (.tr 0)) ∅ 0
    ∗ atPos ER (cell c (.tr 1)) (r (.tr 1)) ∅ 0
    ∗ atPos ER (cell c (.tr 2)) (r (.tr 2)) ∅ 0
    ∗ atPos ER (cell c (.tr 3)) (r (.tr 3)) ∅ 0
    ∗ atPos ER (cell c (.tr 4)) (r (.tr 4)) ∅ 0) := by
  unfold poss
  rw [bigSep_univ_eq_bigSepL Cell.all (by decide) (by decide)]
  rfl

section

variable (X : Dev nD → FVec F S1024x4096 .bf16) (W : Dev nD → FVec F S4096x512 .bf16) (κ : Dev nD × Cell → ℕ)

theorem lastOf_spec (c : Dev nD) (k : Cell) : ∀ r, lastOf k ≤ r → (rd X W).duties (cell c k) r = ∅ :=
  rd_later X W c k (lastOf k) (by cases k <;> simp [lastOf])

/-- When a device has been through all rounds of its cells it may take their counters back, at zero. -/
theorem close_all (c : Dev nD) : iprop(ctx X W κ ∗ poss c lastOf) ⊢ (|={Set.univ}=> zeros c : sProp (MM F)) := by
  unfold poss zeros
  iintro ⟨#HC, H⟩
  iapply (bigSep_fupd (s := Finset.univ) (Φ := fun k : Cell => semVal (cell c k) 0))
  iapply (bigSep_with_persistent (R := ctx X W κ) (Φ := fun k : Cell => atPos ER (cell c k) (lastOf k) ∅ 0) fun k _ => by
    iintro ⟨#HC, H⟩
    ihave HI := (ctx_inv X W κ c k) $$ HC
    iapply (Rounds.cell_close ER (rd X W) (κ := κ (c, k)) (g := cell c k) (Set.mem_univ _) id (lastOf_spec X W c k))
    isplitl [HI]; · iexact HI
    iexact H)
  isplitr; · iexact HC
  iexact H

/-- A part that has been proved to run from `A` runs from `A` in front of the rest of the body. -/
theorem part_then {α : Type} {A : sProp (MM F)} {c : Dev nD} {p : Prog (TpuEff nD τ sig (Elt F) Λ₀ .tc) α} {Q' Q : α → sProp (MM F)}
    (h : A ⊢ wp frame (wpE (defs₀ (F := F)) 𝒱₀ (c : Thread nD τ) none) Set.univ p Q') :
    A ⊢ iprop((∀ a, Q' a -∗ Q a) -∗ wp frame (wpE (defs₀ (F := F)) 𝒱₀ (c : Thread nD τ) none) Set.univ p Q) :=
  h.trans (wp_wand _ _ _)

/-- The same at the end of the body, where an update may follow. -/
theorem wp_end {α : Type} {A : sProp (MM F)} {c : Dev nD} {p : Prog (TpuEff nD τ sig (Elt F) Λ₀ .tc) α} {Q' Q : α → sProp (MM F)}
    (h : A ⊢ wp frame (wpE (defs₀ (F := F)) 𝒱₀ (c : Thread nD τ) none) Set.univ p Q') :
    A ⊢ iprop((∀ a, Q' a -∗ |={Set.univ}=> Q a) -∗ wp frame (wpE (defs₀ (F := F)) 𝒱₀ (c : Thread nD τ) none) Set.univ p Q) := by
  iintro HA Hk
  iapply (wp_fupd frame (wpE (defs₀ (F := F)) 𝒱₀ (c : Thread nD τ) none) Set.univ)
  iapply (part_then h) $$ HA
  iexact Hk

set_option maxHeartbeats 4000000 in
/-- The parts one after the other. -/
theorem parts_run (c : Dev nD) (g : FVec F S4096x512 .f32) :
    iprop(ctx X W κ ∗ ready c
        ∗ dutyTok ER (cell (sh 3 c) .bar) 0 0
        ∗ free (comm true 1) c
        ∗ free (tile1 rxM) c
        ∗ free (tile3 rxM) c
        ∗ debt c (plan.drop 0)
        ∗ reached ER (cell (sh 3 c) .bar) 0
        ∗ dutyTok ER (cell (sh 1 c) .bar) 0 1
        ∗ free (comm false 1) c
        ∗ free (tile0 rxM) c
        ∗ free (tile4 rxM) c
        ∗ reached ER (cell (sh 1 c) .bar) 0
        ∗ dutyTok ER (cell (sh 2 c) .bar) 0 2
        ∗ free (tile2 rxM) c
        ∗ reached ER (cell (sh 2 c) .bar) 0
        ∗ cred (tallyAt (cell c .bar) false 3)
        ∗ atPos ER (cell c .bar) 0 ∅ 0
        ∗ holds (wV true) c fullShare.right (wHalf W c true)
        ∗ dutyTok ER (cell c (.rs true 0)) 0 0
        ∗ dutyTok ER (cell (sh 1 c) (.rr true 0)) 0 0
        ∗ holds (wV false) c fullShare.right (wHalf W c false)
        ∗ dutyTok ER (cell c (.rs false 0)) 0 0
        ∗ dutyTok ER (cell (sh 3 c) (.rr false 0)) 0 0
        ∗ xAt X c
        ∗ wKept W c
        ∗ oAt c g []
        ∗ cred (tallyAt (cell c (.rr true 0)) false (amountOf (.rr true 0)))
        ∗ atPos ER (cell c (.rr true 0)) 0 ∅ 0
        ∗ cred (tallyAt (cell c (.rr false 0)) false (amountOf (.rr false 0)))
        ∗ atPos ER (cell c (.rr false 0)) 0 ∅ 0
        ∗ atPos ER (cell c (.rs true 0)) 0 ∅ 0
        ∗ atPos ER (cell c (.rs false 0)) 0 ∅ 0
        ∗ dutyTok ER (cell (sh 3 c) (.cr true)) 0 0
        ∗ free (comm true 0) c
        ∗ dutyTok ER (cell (sh 1 c) (.cr false)) 0 0
        ∗ free (comm false 0) c
        ∗ cred (tallyAt (cell c (.cr true)) false 1)
        ∗ atPos ER (cell c (.cr true)) 0 ∅ 0
        ∗ cred (tallyAt (cell c (.cr false)) false 1)
        ∗ atPos ER (cell c (.cr false)) 0 ∅ 0
        ∗ dutyTok ER (cell c (.rs true 1)) 0 0
        ∗ dutyTok ER (cell (sh 1 c) (.rr true 1)) 0 0
        ∗ dutyTok ER (cell c (.rs false 1)) 0 0
        ∗ dutyTok ER (cell (sh 3 c) (.rr false 1)) 0 0
        ∗ free (tile0 bufM) c
        ∗ free (tile1 bufM) c
        ∗ dutyTok ER (cell c (.ts 0)) 0 0
        ∗ dutyTok ER (cell (sh 3 c) (.tr 0)) 0 0
        ∗ dutyTok ER (cell c (.ts 1)) 0 0
        ∗ dutyTok ER (cell (sh 1 c) (.tr 1)) 0 0
        ∗ cred (tallyAt (cell c (.rr true 1)) false (amountOf (.rr true 1)))
        ∗ atPos ER (cell c (.rr true 1)) 0 ∅ 0
        ∗ cred (tallyAt (cell c (.rr false 1)) false (amountOf (.rr false 1)))
        ∗ atPos ER (cell c (.rr false 1)) 0 ∅ 0
        ∗ atPos ER (cell c (.rs true 1)) 0 ∅ 0
        ∗ atPos ER (cell c (.rs false 1)) 0 ∅ 0
        ∗ dutyTok ER (cell (sh 3 c) (.cr true)) 1 0
        ∗ dutyTok ER (cell (sh 1 c) (.cr false)) 1 0
        ∗ cred (tallyAt (cell c (.cr true)) true 1)
        ∗ cred (tallyAt (cell c (.cr false)) true 1)
        ∗ dutyTok ER (cell c (.rs true 2)) 0 0
        ∗ dutyTok ER (cell (sh 1 c) (.rr true 2)) 0 0
        ∗ dutyTok ER (cell c (.rs false 2)) 0 0
        ∗ dutyTok ER (cell (sh 3 c) (.rr false 2)) 0 0
        ∗ free (tile2l bufM) c
        ∗ free (tile2r bufM) c
        ∗ dutyTok ER (cell c (.ts 2)) 0 0
        ∗ dutyTok ER (cell (sh 2 c) (.tr 2)) 0 0
        ∗ cred (tallyAt (cell c (.rr true 2)) false (amountOf (.rr true 2)))
        ∗ atPos ER (cell c (.rr true 2)) 0 ∅ 0
        ∗ cred (tallyAt (cell c (.rr false 2)) false (amountOf (.rr false 2)))
        ∗ atPos ER (cell c (.rr false 2)) 0 ∅ 0
        ∗ atPos ER (cell c (.rs true 2)) 0 ∅ 0
        ∗ atPos ER (cell c (.rs false 2)) 0 ∅ 0
        ∗ free (tile3 bufM) c
        ∗ free (tile4 bufM) c
        ∗ dutyTok ER (cell c (.ts 3)) 0 0
        ∗ dutyTok ER (cell (sh 1 c) (.tr 3)) 0 0
        ∗ dutyTok ER (cell c (.ts 4)) 0 0
        ∗ dutyTok ER (cell (sh 3 c) (.tr 4)) 0 0
        ∗ atPos ER (cell c (.ts 0)) 0 ∅ 0
        ∗ cred (tallyAt (cell c (.tr 0)) false (amountOf (.tr 0)))
        ∗ atPos ER (cell c (.tr 0)) 0 ∅ 0
        ∗ atPos ER (cell c (.ts 1)) 0 ∅ 0
        ∗ cred (tallyAt (cell c (.tr 1)) false (amountOf (.tr 1)))
        ∗ atPos ER (cell c (.tr 1)) 0 ∅ 0
        ∗ atPos ER (cell c (.ts 2)) 0 ∅ 0
        ∗ cred (tallyAt (cell c (.tr 2)) false (amountOf (.tr 2)))
        ∗ atPos ER (cell c (.tr 2)) 0 ∅ 0
        ∗ atPos ER (cell c (.ts 3)) 0 ∅ 0
        ∗ cred (tallyAt (cell c (.tr 3)) false (amountOf (.tr 3)))
        ∗ atPos ER (cell c (.tr 3)) 0 ∅ 0
        ∗ atPos ER (cell c (.ts 4)) 0 ∅ 0
        ∗ cred (tallyAt (cell c (.tr 4)) false (amountOf (.tr 4)))
        ∗ atPos ER (cell c (.tr 4)) 0 ∅ 0)
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11)
          (fun _ => iprop(atPos ER (cell c .bar) 1 ∅ 0
        ∗ wKept W c
        ∗ atPos ER (cell c (.rr true 0)) 1 ∅ 0
        ∗ atPos ER (cell c (.rr false 0)) 1 ∅ 0
        ∗ atPos ER (cell c (.rs true 0)) 1 ∅ 0
        ∗ holds (wV true) c fullShare.right (wHalf W c true)
        ∗ atPos ER (cell c (.rs false 0)) 1 ∅ 0
        ∗ holds (wV false) c fullShare.right (wHalf W c false)
        ∗ atPos ER (cell c (.rr true 1)) 1 ∅ 0
        ∗ atPos ER (cell c (.rr false 1)) 1 ∅ 0
        ∗ atPos ER (cell c (.rs true 1)) 1 ∅ 0
        ∗ atPos ER (cell c (.rs false 1)) 1 ∅ 0
        ∗ atPos ER (cell c (.cr true)) 2 ∅ 0
        ∗ atPos ER (cell c (.cr false)) 2 ∅ 0
        ∗ holds (comm true 0) c fullShare.left (wHalf W (sh 2 c) true)
        ∗ holds (comm false 0) c fullShare.left (wHalf W (sh 2 c) false)
        ∗ atPos ER (cell c (.rr true 2)) 1 ∅ 0
        ∗ atPos ER (cell c (.rr false 2)) 1 ∅ 0
        ∗ atPos ER (cell c (.rs true 2)) 1 ∅ 0
        ∗ holds (comm true 0) c fullShare.right (wHalf W (sh 2 c) true)
        ∗ atPos ER (cell c (.rs false 2)) 1 ∅ 0
        ∗ holds (comm false 0) c fullShare.right (wHalf W (sh 2 c) false)
        ∗ xAt X c
        ∗ holds (comm true 1) c fullShare (wHalf W (sh 1 c) true)
        ∗ holds (comm false 1) c fullShare (wHalf W (sh 3 c) false)
        ∗ atPos ER (cell c (.ts 0)) 1 ∅ 0
        ∗ holds (tile0 bufM) c fullShare (tileOf X W c (sh 3 c) true)
        ∗ atPos ER (cell c (.tr 0)) 1 ∅ 0
        ∗ atPos ER (cell c (.ts 1)) 1 ∅ 0
        ∗ holds (tile1 bufM) c fullShare (tileOf X W c (sh 1 c) false)
        ∗ atPos ER (cell c (.tr 1)) 1 ∅ 0
        ∗ atPos ER (cell c (.ts 2)) 1 ∅ 0
        ∗ holds (tile2 bufM) c fullShare (beside (tileOf X W c (sh 2 c) true) (tileOf X W c (sh 2 c) false))
        ∗ atPos ER (cell c (.tr 2)) 1 ∅ 0
        ∗ atPos ER (cell c (.ts 3)) 1 ∅ 0
        ∗ holds (tile3 bufM) c fullShare (tileOf X W c (sh 1 c) true)
        ∗ atPos ER (cell c (.tr 3)) 1 ∅ 0
        ∗ atPos ER (cell c (.ts 4)) 1 ∅ 0
        ∗ holds (tile4 bufM) c fullShare (tileOf X W c (sh 3 c) false)
        ∗ debt c (plan.drop 18)
        ∗ atPos ER (cell c (.tr 4)) 1 ∅ 0
        ∗ holds (tile0 rxM) c fullShare (tileOf X W (sh 1 c) c true)
        ∗ holds (tile1 rxM) c fullShare (tileOf X W (sh 3 c) c false)
        ∗ holds (tile2 rxM) c fullShare (beside (tileOf X W (sh 2 c) c true) (tileOf X W (sh 2 c) c false))
        ∗ holds (tile3 rxM) c fullShare (tileOf X W (sh 3 c) c true)
        ∗ holds (tile4 rxM) c fullShare (tileOf X W (sh 1 c) c false)
        ∗ oAt c g [pc6 X W c, pc5 X W c, pc4 X W c, pc3 X W c, pc2 X W c, pc1 X W c])) := by
  rw [cc0_body_eq_skeleton]
  unfold cc0_body_skel
  rw [k0_part1_eq_skeleton]
  unfold k0_part1_skel
  simp only [Prog.lift, Prog.bind_op, Prog.bind_ret, Prog.pure_eq_ret, wp_deviceId, wp_bind]
  iintro ⟨#HC, #Hr0, HTB0, HFt1, HZ1, HZ3, HD0, #HKB3, HTB1, HFf1, HZ0, HZ4, #HKB1, HTB2, HZ2, #HKB2, HCbar, HAbar0, HWt, HTSt0, HTRt0, HWf, HTSf0, HTRf0, HX, HWK, HO0, HCrt0, HArt00, HCrf0, HArf00, HAst00, HAsf00, HTCt0, HFt0, HTCf0, HFf0, HCct0, HAct0, HCcf0, HAcf0, HTSt1, HTRt1, HTSf1, HTRf1, HY0, HY1, HUS0, HUR0, HUS1, HUR1, HCrt1, HArt10, HCrf1, HArf10, HAst10, HAsf10, HTCt1, HTCf1, HCct1, HCcf1, HTSt2, HTRt2, HTSf2, HTRf2, HY2l, HY2r, HUS2, HUR2, HCrt2, HArt20, HCrf2, HArf20, HAst20, HAsf20, HY3, HY4, HUS3, HUR3, HUS4, HUR4, HBs00, HEr0, HBr00, HBs10, HEr1, HBr10, HBs20, HEr2, HBr20, HBs30, HEr3, HBr30, HBs40, HEr4, HBr40⟩
  iapply (part_then (part2_wp X W κ c _ _ _)) $$ [HTB0 HFt1 HZ1 HZ3 HD0 HTB1 HFf1 HZ0 HZ4 HTB2 HZ2 HCbar HAbar0 HWt HTSt0 HTRt0 HWf HTSf0 HTRf0]
  · isplitr; · iexact HC
    isplitr; · iexact Hr0
    isplitl [HTB0]; · iexact HTB0
    isplitl [HFt1]; · iexact HFt1
    isplitl [HZ1]; · iexact HZ1
    isplitl [HZ3]; · iexact HZ3
    isplitl [HD0]; · iexact HD0
    isplitr; · iexact HKB3
    isplitl [HTB1]; · iexact HTB1
    isplitl [HFf1]; · iexact HFf1
    isplitl [HZ0]; · iexact HZ0
    isplitl [HZ4]; · iexact HZ4
    isplitr; · iexact HKB1
    isplitl [HTB2]; · iexact HTB2
    isplitl [HZ2]; · iexact HZ2
    isplitr; · iexact HKB2
    isplitl [HCbar]; · iexact HCbar
    isplitl [HAbar0]; · iexact HAbar0
    isplitl [HWt]; · iexact HWt
    isplitl [HTSt0]; · iexact HTSt0
    isplitl [HTRt0]; · iexact HTRt0
    isplitl [HWf]; · iexact HWf
    isplitl [HTSf0]; · iexact HTSf0
    iexact HTRf0
  iintro %_ ⟨#Hr1, #Hr2, #Hr3, HAbar1, HZN1, HZN3, HZN0, HZN4, HZN2, HCst0, HCsf0, HD5⟩
  iapply (part_then (part3_wp X W κ c g _ _ _)) $$ [HX HWK HO0 HCrt0 HArt00 HD5 HCrf0 HArf00]
  · isplitr; · iexact HC
    isplitr; · iexact Hr0
    isplitr; · iexact Hr1
    isplitr; · iexact Hr2
    isplitr; · iexact Hr3
    isplitl [HX]; · iexact HX
    isplitl [HWK]; · iexact HWK
    isplitl [HO0]; · iexact HO0
    isplitl [HCrt0]; · iexact HCrt0
    isplitl [HArt00]; · iexact HArt00
    isplitl [HD5]; · iexact HD5
    isplitl [HCrf0]; · iexact HCrf0
    iexact HArf00
  iintro %_ ⟨HX, HWK, HO1, HArt01, HVt0full, HD5, HArf01, HVf0full⟩
  iapply (part_then (part4_wp X W κ c _ _)) $$ [HCst0 HAst00 HD5 HCsf0 HAsf00 HTCt0 HFt0 HTCf0 HFf0 HCct0 HAct0 HCcf0 HAcf0]
  · isplitr; · iexact HC
    isplitr; · iexact Hr0
    isplitr; · iexact Hr1
    isplitr; · iexact Hr2
    isplitr; · iexact Hr3
    isplitl [HCst0]; · iexact HCst0
    isplitl [HAst00]; · iexact HAst00
    isplitl [HD5]; · iexact HD5
    isplitl [HCsf0]; · iexact HCsf0
    isplitl [HAsf00]; · iexact HAsf00
    isplitl [HTCt0]; · iexact HTCt0
    isplitl [HFt0]; · iexact HFt0
    isplitl [HTCf0]; · iexact HTCf0
    isplitl [HFf0]; · iexact HFf0
    isplitl [HCct0]; · iexact HCct0
    isplitl [HAct0]; · iexact HAct0
    isplitl [HCcf0]; · iexact HCcf0
    iexact HAcf0
  iintro %_ ⟨HAst01, HWt, HAsf01, HWf, HAct1, #HKt, HNt0, HD7, HAcf1, #HKf, HNf0⟩
  iapply (part_then (part5_wp X W κ c _)) $$ [HVt0full HNt0 HTSt1 HTRt1 HD7 HVf0full HNf0 HTSf1 HTRf1 HX HY0]
  · isplitr; · iexact HC
    isplitr; · iexact Hr0
    isplitr; · iexact Hr1
    isplitr; · iexact Hr2
    isplitr; · iexact Hr3
    isplitl [HVt0full]; · iexact HVt0full
    isplitl [HNt0]; · iexact HNt0
    isplitl [HTSt1]; · iexact HTSt1
    isplitl [HTRt1]; · iexact HTRt1
    isplitl [HD7]; · iexact HD7
    isplitr; · iexact HKt
    isplitl [HVf0full]; · iexact HVf0full
    isplitl [HNf0]; · iexact HNf0
    isplitl [HTSf1]; · iexact HTSf1
    isplitl [HTRf1]; · iexact HTRf1
    isplitr; · iexact HKf
    isplitl [HX]; · iexact HX
    iexact HY0
  iintro %v ⟨%hv, HVt0left, HCst1, HVf0left, HCsf1, HD9, HX, HT0⟩
  iapply (part_then (part6_wp X W κ c _ v hv)) $$ [HY1]
  · isplitr; · iexact HC
    isplitr; · iexact Hr0
    isplitr; · iexact Hr1
    isplitr; · iexact Hr2
    isplitr; · iexact Hr3
    iexact HY1
  iintro %_ HT1
  iapply (part_then (part7_wp X W κ c _ _ _)) $$ [HT0 HZN0 HUS0 HUR0 HD9 HT1 HZN1 HUS1 HUR1 HCrt1 HArt10]
  · isplitr; · iexact HC
    isplitr; · iexact Hr0
    isplitr; · iexact Hr1
    isplitr; · iexact Hr2
    isplitr; · iexact Hr3
    isplitl [HT0]; · iexact HT0
    isplitl [HZN0]; · iexact HZN0
    isplitl [HUS0]; · iexact HUS0
    isplitl [HUR0]; · iexact HUR0
    isplitl [HD9]; · iexact HD9
    isplitl [HT1]; · iexact HT1
    isplitl [HZN1]; · iexact HZN1
    isplitl [HUS1]; · iexact HUS1
    isplitl [HUR1]; · iexact HUR1
    isplitl [HCrt1]; · iexact HCrt1
    iexact HArt10
  iintro %_ ⟨HEs0, HEs1, HD11, HArt11, HVt1full, #HKNt⟩
  iapply (part_then (part8_wp X W κ c _ _)) $$ [HCrf1 HArf10 HD11 HCst1 HAst10 HCsf1 HAsf10 HVt0left HVf0left HTCt1 HTCf1 HCct1 HAct1 HCcf1 HAcf1]
  · isplitr; · iexact HC
    isplitr; · iexact Hr0
    isplitr; · iexact Hr1
    isplitr; · iexact Hr2
    isplitr; · iexact Hr3
    isplitl [HCrf1]; · iexact HCrf1
    isplitl [HArf10]; · iexact HArf10
    isplitl [HD11]; · iexact HD11
    isplitl [HCst1]; · iexact HCst1
    isplitl [HAst10]; · iexact HAst10
    isplitl [HCsf1]; · iexact HCsf1
    isplitl [HAsf10]; · iexact HAsf10
    isplitl [HVt0left]; · iexact HVt0left
    isplitl [HVf0left]; · iexact HVf0left
    isplitl [HTCt1]; · iexact HTCt1
    isplitr; · iexact HKNt
    isplitl [HTCf1]; · iexact HTCf1
    isplitl [HCct1]; · iexact HCct1
    isplitl [HAct1]; · iexact HAct1
    isplitl [HCcf1]; · iexact HCcf1
    iexact HAcf1
  iintro %_ ⟨HArf11, HVf1full, HAst11, HAsf11, HAct2, HNt1, HD13, HAcf2, HNf1⟩
  iapply (part_then (part9_wp X W κ c _ _)) $$ [HVt1full HNt1 HTSt2 HTRt2 HD13 HVf1full HNf1 HTSf2 HTRf2 HX HY2l]
  · isplitr; · iexact HC
    isplitr; · iexact Hr0
    isplitr; · iexact Hr1
    isplitr; · iexact Hr2
    isplitr; · iexact Hr3
    isplitl [HVt1full]; · iexact HVt1full
    isplitl [HNt1]; · iexact HNt1
    isplitl [HTSt2]; · iexact HTSt2
    isplitl [HTRt2]; · iexact HTRt2
    isplitl [HD13]; · iexact HD13
    isplitl [HVf1full]; · iexact HVf1full
    isplitl [HNf1]; · iexact HNf1
    isplitl [HTSf2]; · iexact HTSf2
    isplitl [HTRf2]; · iexact HTRf2
    isplitl [HX]; · iexact HX
    iexact HY2l
  iintro %x ⟨%hx, HVt1left, HCst2, HVf1left, HCsf2, HD15, HX, HT2l⟩
  subst hx
  iapply (part_then (part10_wp X W κ c _)) $$ [HVf1left HY2r HT2l HZN2 HUS2 HUR2 HD15]
  · isplitr; · iexact HC
    isplitr; · iexact Hr0
    isplitr; · iexact Hr1
    isplitr; · iexact Hr2
    isplitr; · iexact Hr3
    isplitl [HVf1left]; · iexact HVf1left
    isplitl [HY2r]; · iexact HY2r
    isplitl [HT2l]; · iexact HT2l
    isplitl [HZN2]; · iexact HZN2
    isplitl [HUS2]; · iexact HUS2
    isplitl [HUR2]; · iexact HUR2
    iexact HD15
  iintro %_ ⟨HVf1left, HEs2, HD16⟩
  iapply (part_then (part11_wp X W κ c _ _ _)) $$ [HCrt2 HArt20 HD16 HCrf2 HArf20 HCst2 HAst20]
  · isplitr; · iexact HC
    isplitr; · iexact Hr0
    isplitr; · iexact Hr1
    isplitr; · iexact Hr2
    isplitr; · iexact Hr3
    isplitl [HCrt2]; · iexact HCrt2
    isplitl [HArt20]; · iexact HArt20
    isplitl [HD16]; · iexact HD16
    isplitl [HCrf2]; · iexact HCrf2
    isplitl [HArf20]; · iexact HArf20
    isplitl [HCst2]; · iexact HCst2
    iexact HAst20
  iintro %_ ⟨HArt21, HVt2full, HArf21, HVf2full, HD16, HAst21, HVt1right⟩
  iapply (part_then (part12_wp X W κ c _)) $$ [HCsf2 HAsf20 HD16 HX HVt2full HY3 HVf2full HY4]
  · isplitr; · iexact HC
    isplitr; · iexact Hr0
    isplitr; · iexact Hr1
    isplitr; · iexact Hr2
    isplitr; · iexact Hr3
    isplitl [HCsf2]; · iexact HCsf2
    isplitl [HAsf20]; · iexact HAsf20
    isplitl [HD16]; · iexact HD16
    isplitl [HX]; · iexact HX
    isplitl [HVt2full]; · iexact HVt2full
    isplitl [HY3]; · iexact HY3
    isplitl [HVf2full]; · iexact HVf2full
    iexact HY4
  iintro %w ⟨HD16, HAsf21, HVf1right, HX, HVt2full, HT3, HVf2full, HT4⟩
  obtain ⟨w1, w2, w3, w4⟩ := w
  dsimp only
  iapply (part_then (part13_wp X W κ c _ _ _ _ _)) $$ [HT3 HZN3 HUS3 HUR3 HD16]
  · isplitr; · iexact HC
    isplitr; · iexact Hr0
    isplitr; · iexact Hr1
    isplitr; · iexact Hr2
    isplitr; · iexact Hr3
    isplitl [HT3]; · iexact HT3
    isplitl [HZN3]; · iexact HZN3
    isplitl [HUS3]; · iexact HUS3
    isplitl [HUR3]; · iexact HUR3
    iexact HD16
  iintro %_ ⟨HEs3, HD17⟩
  iapply (part_then (part14_wp X W κ c _)) $$ [HT4 HZN4 HUS4 HUR4 HD17 HEs0 HBs00 HEr0 HBr00 HEs1 HBs10]
  · isplitr; · iexact HC
    isplitr; · iexact Hr0
    isplitr; · iexact Hr1
    isplitr; · iexact Hr2
    isplitr; · iexact Hr3
    isplitl [HT4]; · iexact HT4
    isplitl [HZN4]; · iexact HZN4
    isplitl [HUS4]; · iexact HUS4
    isplitl [HUR4]; · iexact HUR4
    isplitl [HD17]; · iexact HD17
    isplitl [HEs0]; · iexact HEs0
    isplitl [HBs00]; · iexact HBs00
    isplitl [HEr0]; · iexact HEr0
    isplitl [HBr00]; · iexact HBr00
    isplitl [HEs1]; · iexact HEs1
    iexact HBs10
  iintro %_ ⟨HEs4, HBs01, HT0, HBr01, HR0, HD18, HBs11, HT1⟩
  iapply (part_then (part15_wp X W κ c _ _)) $$ [HEr1 HBr10 HD18 HEs2 HBs20 HEr2 HBr20]
  · isplitr; · iexact HC
    isplitr; · iexact Hr0
    isplitr; · iexact Hr1
    isplitr; · iexact Hr2
    isplitr; · iexact Hr3
    isplitl [HEr1]; · iexact HEr1
    isplitl [HBr10]; · iexact HBr10
    isplitl [HD18]; · iexact HD18
    isplitl [HEs2]; · iexact HEs2
    isplitl [HBs20]; · iexact HBs20
    isplitl [HEr2]; · iexact HEr2
    iexact HBr20
  iintro %_ ⟨HBr11, HR1, HBs21, HT2, HD18, HBr21, HR2⟩
  iapply (part_then (part16_wp X W κ c _ _)) $$ [HEs3 HBs30 HD18 HEr3 HBr30 HEs4 HBs40 HEr4 HBr40]
  · isplitr; · iexact HC
    isplitr; · iexact Hr0
    isplitr; · iexact Hr1
    isplitr; · iexact Hr2
    isplitr; · iexact Hr3
    isplitl [HEs3]; · iexact HEs3
    isplitl [HBs30]; · iexact HBs30
    isplitl [HD18]; · iexact HD18
    isplitl [HEr3]; · iexact HEr3
    isplitl [HBr30]; · iexact HBr30
    isplitl [HEs4]; · iexact HEs4
    isplitl [HBs40]; · iexact HBs40
    isplitl [HEr4]; · iexact HEr4
    iexact HBr40
  iintro %_ ⟨HBs31, HT3, HBr31, HR3, HBs41, HT4, HD18, HBr41, HR4⟩
  iapply (part_then (part17_wp X W κ c g _ _ _)) $$ [HR0 HO1 HR1 HR2 HR3 HR4]
  · isplitr; · iexact HC
    isplitr; · iexact Hr0
    isplitr; · iexact Hr1
    isplitr; · iexact Hr2
    isplitr; · iexact Hr3
    isplitl [HR0]; · iexact HR0
    isplitl [HO1]; · iexact HO1
    isplitl [HR1]; · iexact HR1
    isplitl [HR2]; · iexact HR2
    isplitl [HR3]; · iexact HR3
    iexact HR4
  iintro %_ ⟨HR0, HR1, HR2, HR3, HR4, HO6⟩
  rw [wp_ret]
  imodintro
  isplitl [HAbar1]; · iexact HAbar1
  isplitl [HWK]; · iexact HWK
  isplitl [HArt01]; · iexact HArt01
  isplitl [HArf01]; · iexact HArf01
  isplitl [HAst01]; · iexact HAst01
  isplitl [HWt]; · iexact HWt
  isplitl [HAsf01]; · iexact HAsf01
  isplitl [HWf]; · iexact HWf
  isplitl [HArt11]; · iexact HArt11
  isplitl [HArf11]; · iexact HArf11
  isplitl [HAst11]; · iexact HAst11
  isplitl [HAsf11]; · iexact HAsf11
  isplitl [HAct2]; · iexact HAct2
  isplitl [HAcf2]; · iexact HAcf2
  isplitl [HVt1left]; · iexact HVt1left
  isplitl [HVf1left]; · iexact HVf1left
  isplitl [HArt21]; · iexact HArt21
  isplitl [HArf21]; · iexact HArf21
  isplitl [HAst21]; · iexact HAst21
  isplitl [HVt1right]; · iexact HVt1right
  isplitl [HAsf21]; · iexact HAsf21
  isplitl [HVf1right]; · iexact HVf1right
  isplitl [HX]; · iexact HX
  isplitl [HVt2full]; · iexact HVt2full
  isplitl [HVf2full]; · iexact HVf2full
  isplitl [HBs01]; · iexact HBs01
  isplitl [HT0]; · iexact HT0
  isplitl [HBr01]; · iexact HBr01
  isplitl [HBs11]; · iexact HBs11
  isplitl [HT1]; · iexact HT1
  isplitl [HBr11]; · iexact HBr11
  isplitl [HBs21]; · iexact HBs21
  isplitl [HT2]; · iexact HT2
  isplitl [HBr21]; · iexact HBr21
  isplitl [HBs31]; · iexact HBs31
  isplitl [HT3]; · iexact HT3
  isplitl [HBr31]; · iexact HBr31
  isplitl [HBs41]; · iexact HBs41
  isplitl [HT4]; · iexact HT4
  isplitl [HD18]; · iexact HD18
  isplitl [HBr41]; · iexact HBr41
  isplitl [HR0]; · iexact HR0
  isplitl [HR1]; · iexact HR1
  isplitl [HR2]; · iexact HR2
  isplitl [HR3]; · iexact HR3
  isplitl [HR4]; · iexact HR4
  iexact HO6

/-- The body of one device: from its cells at their first round, its blocks and its buffers to all counters at zero,
    nothing owed, and the result's six pieces in place. -/
theorem body_run (c : Dev nD) (g : FVec F S4096x512 .f32) :
    iprop(ctx X W κ ∗ ready c ∗ reached ER (cell (sh 1 c) .bar) 0 ∗ reached ER (cell (sh 2 c) .bar) 0 ∗ reached ER (cell (sh 3 c) .bar) 0
        ∗ debt c plan ∗ toks c ∗ creds c ∗ poss c (fun _ => 0) ∗ xAt X c ∗ wholeAt cc0_stg1_0 c (W c) ∗ oAt c g []
        ∗ wholeFree cc0_scratch0 c ∗ wholeFree cc0_scratch1 c ∗ wholeFree cc0_scratch2 c ∗ wholeFree cc0_scratch3 c)
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11)
          (fun _ => iprop(debt c [] ∗ zeros c ∗ xAt X c ∗ wholeAt cc0_stg1_0 c (W c)
            ∗ oAt c g [pc6 X W c, pc5 X W c, pc4 X W c, pc3 X W c, pc2 X W c, pc1 X W c]
            ∗ wholeFree cc0_scratch0 c ∗ wholeFree cc0_scratch1 c ∗ wholeFree cc0_scratch2 c ∗ wholeFree cc0_scratch3 c)) := by
  have hbufs : wholeFree cc0_scratch2 c ⊢ (free (tile0 bufM) c ∗ free (tile1 bufM) c ∗ free (tile2 bufM) c ∗ free (tile3 bufM) c ∗ free (tile4 bufM) c : sProp (MM F)) := buf_split c
  have hbufp : (free (tile0 bufM) c ∗ free (tile1 bufM) c ∗ free (tile2 bufM) c ∗ free (tile3 bufM) c ∗ free (tile4 bufM) c : sProp (MM F)) ⊢ wholeFree cc0_scratch2 c := buf_parts c
  have hrxs : wholeFree cc0_scratch3 c ⊢ (free (tile0 rxM) c ∗ free (tile1 rxM) c ∗ free (tile2 rxM) c ∗ free (tile3 rxM) c ∗ free (tile4 rxM) c : sProp (MM F)) := rx_split c
  have hrxp : (free (tile0 rxM) c ∗ free (tile1 rxM) c ∗ free (tile2 rxM) c ∗ free (tile3 rxM) c ∗ free (tile4 rxM) c : sProp (MM F)) ⊢ wholeFree cc0_scratch3 c := rx_parts c
  have hmid : free (tile2 bufM) c ⊢ (free (tile2l bufM) c ∗ free (tile2r bufM) c : sProp (MM F)) := mid_split c
  have hclose := close_all X W κ c
  rw [poss_list] at hclose ⊢
  iintro ⟨#HC, #Hr0, #HKB1, #HKB2, #HKB3, HD0, Htoks, Hcreds, Hposs, HX, Hw, HO0, Hs0, Hs1, Hs2, Hs3⟩
  ihave Htoks := (toks_list c) $$ Htoks
  icases Htoks with ⟨HTB0, HTB1, HTB2, HTSt0, HTRt0, HTSf0, HTRf0, HTCt0, HTCf0, HTSt1, HTRt1, HTSf1, HTRf1, HUS0, HUR0, HUS1, HUR1, HTCt1, HTCf1, HTSt2, HTRt2, HTSf2, HTRf2, HUS2, HUR2, HUS3, HUR3, HUS4, HUR4⟩
  ihave Hcreds := (creds_list c) $$ Hcreds
  icases Hcreds with ⟨HCbar, HCrt0, HCrf0, HCct0, HCcf0, HCrt1, HCrf1, HCct1, HCcf1, HCrt2, HCrf2, HEr0, HEr1, HEr2, HEr3, HEr4⟩
  icases Hposs with ⟨HAbar0, HAct0, HAcf0, HAst00, HAst10, HAst20, HArt00, HArt10, HArt20, HAsf00, HAsf10, HAsf20, HArf00, HArf10, HArf20, HBs00, HBs10, HBs20, HBs30, HBs40, HBr00, HBr10, HBr20, HBr30, HBr40⟩
  ihave Hw := (w_split W c).1 $$ Hw
  icases Hw with ⟨HWK, HWt, HWf⟩
  ihave Hs0 := (ring_split true c) $$ Hs0
  icases Hs0 with ⟨HFt0, HFt1⟩
  ihave Hs1 := (ring_split false c) $$ Hs1
  icases Hs1 with ⟨HFf0, HFf1⟩
  ihave Hs2 := hbufs $$ Hs2
  icases Hs2 with ⟨HY0, HY1, HY2, HY3, HY4⟩
  ihave HY2 := hmid $$ HY2
  icases HY2 with ⟨HY2l, HY2r⟩
  ihave Hs3 := hrxs $$ Hs3
  icases Hs3 with ⟨HZ0, HZ1, HZ2, HZ3, HZ4⟩
  iapply (wp_end (parts_run X W κ c g)) $$ [HTB0 HFt1 HZ1 HZ3 HD0 HTB1 HFf1 HZ0 HZ4 HTB2 HZ2 HCbar HAbar0 HWt HTSt0 HTRt0 HWf HTSf0 HTRf0 HX HWK HO0 HCrt0 HArt00 HCrf0 HArf00 HAst00 HAsf00 HTCt0 HFt0 HTCf0 HFf0 HCct0 HAct0 HCcf0 HAcf0 HTSt1 HTRt1 HTSf1 HTRf1 HY0 HY1 HUS0 HUR0 HUS1 HUR1 HCrt1 HArt10 HCrf1 HArf10 HAst10 HAsf10 HTCt1 HTCf1 HCct1 HCcf1 HTSt2 HTRt2 HTSf2 HTRf2 HY2l HY2r HUS2 HUR2 HCrt2 HArt20 HCrf2 HArf20 HAst20 HAsf20 HY3 HY4 HUS3 HUR3 HUS4 HUR4 HBs00 HEr0 HBr00 HBs10 HEr1 HBr10 HBs20 HEr2 HBr20 HBs30 HEr3 HBr30 HBs40 HEr4 HBr40]
  · isplitr; · iexact HC
    isplitr; · iexact Hr0
    isplitl [HTB0]; · iexact HTB0
    isplitl [HFt1]; · iexact HFt1
    isplitl [HZ1]; · iexact HZ1
    isplitl [HZ3]; · iexact HZ3
    isplitl [HD0]; · iexact HD0
    isplitr; · iexact HKB3
    isplitl [HTB1]; · iexact HTB1
    isplitl [HFf1]; · iexact HFf1
    isplitl [HZ0]; · iexact HZ0
    isplitl [HZ4]; · iexact HZ4
    isplitr; · iexact HKB1
    isplitl [HTB2]; · iexact HTB2
    isplitl [HZ2]; · iexact HZ2
    isplitr; · iexact HKB2
    isplitl [HCbar]; · iexact HCbar
    isplitl [HAbar0]; · iexact HAbar0
    isplitl [HWt]; · iexact HWt
    isplitl [HTSt0]; · iexact HTSt0
    isplitl [HTRt0]; · iexact HTRt0
    isplitl [HWf]; · iexact HWf
    isplitl [HTSf0]; · iexact HTSf0
    isplitl [HTRf0]; · iexact HTRf0
    isplitl [HX]; · iexact HX
    isplitl [HWK]; · iexact HWK
    isplitl [HO0]; · iexact HO0
    isplitl [HCrt0]; · iexact HCrt0
    isplitl [HArt00]; · iexact HArt00
    isplitl [HCrf0]; · iexact HCrf0
    isplitl [HArf00]; · iexact HArf00
    isplitl [HAst00]; · iexact HAst00
    isplitl [HAsf00]; · iexact HAsf00
    isplitl [HTCt0]; · iexact HTCt0
    isplitl [HFt0]; · iexact HFt0
    isplitl [HTCf0]; · iexact HTCf0
    isplitl [HFf0]; · iexact HFf0
    isplitl [HCct0]; · iexact HCct0
    isplitl [HAct0]; · iexact HAct0
    isplitl [HCcf0]; · iexact HCcf0
    isplitl [HAcf0]; · iexact HAcf0
    isplitl [HTSt1]; · iexact HTSt1
    isplitl [HTRt1]; · iexact HTRt1
    isplitl [HTSf1]; · iexact HTSf1
    isplitl [HTRf1]; · iexact HTRf1
    isplitl [HY0]; · iexact HY0
    isplitl [HY1]; · iexact HY1
    isplitl [HUS0]; · iexact HUS0
    isplitl [HUR0]; · iexact HUR0
    isplitl [HUS1]; · iexact HUS1
    isplitl [HUR1]; · iexact HUR1
    isplitl [HCrt1]; · iexact HCrt1
    isplitl [HArt10]; · iexact HArt10
    isplitl [HCrf1]; · iexact HCrf1
    isplitl [HArf10]; · iexact HArf10
    isplitl [HAst10]; · iexact HAst10
    isplitl [HAsf10]; · iexact HAsf10
    isplitl [HTCt1]; · iexact HTCt1
    isplitl [HTCf1]; · iexact HTCf1
    isplitl [HCct1]; · iexact HCct1
    isplitl [HCcf1]; · iexact HCcf1
    isplitl [HTSt2]; · iexact HTSt2
    isplitl [HTRt2]; · iexact HTRt2
    isplitl [HTSf2]; · iexact HTSf2
    isplitl [HTRf2]; · iexact HTRf2
    isplitl [HY2l]; · iexact HY2l
    isplitl [HY2r]; · iexact HY2r
    isplitl [HUS2]; · iexact HUS2
    isplitl [HUR2]; · iexact HUR2
    isplitl [HCrt2]; · iexact HCrt2
    isplitl [HArt20]; · iexact HArt20
    isplitl [HCrf2]; · iexact HCrf2
    isplitl [HArf20]; · iexact HArf20
    isplitl [HAst20]; · iexact HAst20
    isplitl [HAsf20]; · iexact HAsf20
    isplitl [HY3]; · iexact HY3
    isplitl [HY4]; · iexact HY4
    isplitl [HUS3]; · iexact HUS3
    isplitl [HUR3]; · iexact HUR3
    isplitl [HUS4]; · iexact HUS4
    isplitl [HUR4]; · iexact HUR4
    isplitl [HBs00]; · iexact HBs00
    isplitl [HEr0]; · iexact HEr0
    isplitl [HBr00]; · iexact HBr00
    isplitl [HBs10]; · iexact HBs10
    isplitl [HEr1]; · iexact HEr1
    isplitl [HBr10]; · iexact HBr10
    isplitl [HBs20]; · iexact HBs20
    isplitl [HEr2]; · iexact HEr2
    isplitl [HBr20]; · iexact HBr20
    isplitl [HBs30]; · iexact HBs30
    isplitl [HEr3]; · iexact HEr3
    isplitl [HBr30]; · iexact HBr30
    isplitl [HBs40]; · iexact HBs40
    isplitl [HEr4]; · iexact HEr4
    iexact HBr40
  iintro %_ ⟨HAbar1, HWK, HArt01, HArf01, HAst01, HWt, HAsf01, HWf, HArt11, HArf11, HAst11, HAsf11, HAct2, HAcf2, HVt1left, HVf1left, HArt21, HArf21, HAst21, HVt1right, HAsf21, HVf1right, HX, HVt2full, HVf2full, HBs01, HT0, HBr01, HBs11, HT1, HBr11, HBs21, HT2, HBr21, HBs31, HT3, HBr31, HBs41, HT4, HD18, HBr41, HR0, HR1, HR2, HR3, HR4, HO6⟩
  imod hclose $$ [HAbar1 HAct2 HAcf2 HAst01 HAst11 HAst21 HArt01 HArt11 HArt21 HAsf01 HAsf11 HAsf21 HArf01 HArf11 HArf21 HBs01 HBs11 HBs21 HBs31 HBs41 HBr01 HBr11 HBr21 HBr31 HBr41] with Hz
  · isplitr; · iexact HC
    isplitl [HAbar1]; · iexact HAbar1
    isplitl [HAct2]; · iexact HAct2
    isplitl [HAcf2]; · iexact HAcf2
    isplitl [HAst01]; · iexact HAst01
    isplitl [HAst11]; · iexact HAst11
    isplitl [HAst21]; · iexact HAst21
    isplitl [HArt01]; · iexact HArt01
    isplitl [HArt11]; · iexact HArt11
    isplitl [HArt21]; · iexact HArt21
    isplitl [HAsf01]; · iexact HAsf01
    isplitl [HAsf11]; · iexact HAsf11
    isplitl [HAsf21]; · iexact HAsf21
    isplitl [HArf01]; · iexact HArf01
    isplitl [HArf11]; · iexact HArf11
    isplitl [HArf21]; · iexact HArf21
    isplitl [HBs01]; · iexact HBs01
    isplitl [HBs11]; · iexact HBs11
    isplitl [HBs21]; · iexact HBs21
    isplitl [HBs31]; · iexact HBs31
    isplitl [HBs41]; · iexact HBs41
    isplitl [HBr01]; · iexact HBr01
    isplitl [HBr11]; · iexact HBr11
    isplitl [HBr21]; · iexact HBr21
    isplitl [HBr31]; · iexact HBr31
    iexact HBr41
  imodintro
  isplitl [HD18]; · iexact HD18
  isplitl [Hz]; · iexact Hz
  isplitl [HX]; · iexact HX
  isplitl [HWK HWt HWf]
  · iapply (w_split W c).2
    isplitl [HWK]; · iexact HWK
    isplitl [HWt]; · iexact HWt
    iexact HWf
  isplitl [HO6]; · iexact HO6
  isplitl [HVt1left HVt1right HVt2full]
  · iapply (ring_parts true c)
    isplitl [HVt1left HVt1right]
    · iapply (holds_free (comm true 0) c (wHalf W (sh 2 c) true))
      iapply (holds_halves (comm true 0) c (wHalf W (sh 2 c) true)).2
      isplitl [HVt1left]; · iexact HVt1left
      iexact HVt1right
    iapply (holds_free (comm true 1) c (wHalf W (sh 1 c) true)) $$ HVt2full
  isplitl [HVf1left HVf1right HVf2full]
  · iapply (ring_parts false c)
    isplitl [HVf1left HVf1right]
    · iapply (holds_free (comm false 0) c (wHalf W (sh 2 c) false))
      iapply (holds_halves (comm false 0) c (wHalf W (sh 2 c) false)).2
      isplitl [HVf1left]; · iexact HVf1left
      iexact HVf1right
    iapply (holds_free (comm false 1) c (wHalf W (sh 3 c) false)) $$ HVf2full
  isplitl [HT0 HT1 HT2 HT3 HT4]
  · iapply hbufp
    isplitl [HT0]; · iapply (holds_free (tile0 bufM) c (tileOf X W c (sh 3 c) true)) $$ HT0
    isplitl [HT1]; · iapply (holds_free (tile1 bufM) c (tileOf X W c (sh 1 c) false)) $$ HT1
    isplitl [HT2]; · iapply (holds_free (tile2 bufM) c (beside (tileOf X W c (sh 2 c) true) (tileOf X W c (sh 2 c) false))) $$ HT2
    isplitl [HT3]; · iapply (holds_free (tile3 bufM) c (tileOf X W c (sh 1 c) true)) $$ HT3
    iapply (holds_free (tile4 bufM) c (tileOf X W c (sh 3 c) false)) $$ HT4
  iapply hrxp
  isplitl [HR0]; · iapply (holds_free (tile0 rxM) c (tileOf X W (sh 1 c) c true)) $$ HR0
  isplitl [HR1]; · iapply (holds_free (tile1 rxM) c (tileOf X W (sh 3 c) c false)) $$ HR1
  isplitl [HR2]; · iapply (holds_free (tile2 rxM) c (beside (tileOf X W (sh 2 c) c true) (tileOf X W (sh 2 c) c false))) $$ HR2
  isplitl [HR3]; · iapply (holds_free (tile3 rxM) c (tileOf X W (sh 3 c) c true)) $$ HR3
  iapply (holds_free (tile4 rxM) c (tileOf X W (sh 1 c) c false)) $$ HR4

end

end Cert.KernelIdealPf

end
-- ==== Proof.KernelIdealPf.Result.lean ====
/-
  The block of the product each device ends with: its stores cover the result block, whatever it held before.
-/
module

public import proofs.«01_k».proof.Proof.KernelIdealPf.Body

@[expose] public section

set_option maxRecDepth 16384

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

variable (X : Dev nD → FVec F S1024x4096 .bf16) (W : Dev nD → FVec F S4096x512 .bf16)

/-! ## The result block -/

/-- The device whose rows hold an element of the result block. -/
def rowDev (i : S4096x512.Idx) : Dev nD := ⟨(i 0).val / 1024, by
  have h : (i 0).val < 4096 := (i 0).isLt
  show (i 0).val / 1024 < 4
  omega⟩

/-- The element's place among that device's rows. -/
def inRow (i : S4096x512.Idx) : S1024x512.Idx := fun a => match a with
  | 0 => ⟨(i 0).val % 1024, Nat.mod_lt _ (by decide)⟩
  | 1 => ⟨(i 1).val, (i 1).isLt⟩

/-- The rows of device `d` in the result block of device `c`: its own computed at full width, the others as received. -/
def rowsOf (d c : Dev nD) : FVec F S1024x512 .f32 :=
  if d = c then k0_pay1 (X c) (W c) else extf .f32 (beside (tileOf X W d c true) (tileOf X W d c false)) bitsLt_bf16_f32

/-- The result block of device `c`. -/
def outOf (c : Dev nD) : FVec F S4096x512 .f32 := fun i => rowsOf X W (rowDev i) c (inRow i)

theorem outOf_of (c d : Dev nD) (i : S4096x512.Idx) (x : S1024x512.Idx) (h0 : (i 0).val = 1024 * d.val + (x 0).val) (h1 : (i 1).val = (x 1).val) :
    outOf X W c i = rowsOf X W d c x := by
  have hx : (x 0).val < 1024 := (x 0).isLt
  have e1 : rowDev i = d := Fin.ext (by
    show (i 0).val / 1024 = d.val
    omega)
  have e2 : inRow i = x := funext fun a => by
    match a with
    | 0 => exact Fin.ext (by
        show (i 0).val % 1024 = (x 0).val
        omega)
    | 1 => exact Fin.ext h1
  unfold outOf
  rw [e1, e2]

/-- A place among a device's rows, its column in the left (`true`) or the right half. -/
def widen (b : Bool) (x : S1024x256.Idx) : S1024x512.Idx := fun a => match a with
  | 0 => ⟨(x 0).val, (x 0).isLt⟩
  | 1 => ⟨(x 1).val + (if b then 0 else 256), by
      have h : (x 1).val < 256 := (x 1).isLt
      show (x 1).val + (if b then 0 else 256) < 512
      split <;> omega⟩

theorem beside_widen (l r : FVec F S1024x256 .bf16) (b : Bool) (x : S1024x256.Idx) : beside l r (widen b x) = if b then l x else r x := by
  have h : (x 1).val < 256 := (x 1).isLt
  cases b with
  | true =>
    unfold beside
    rw [dif_pos (show ((widen true x) 1).val < 256 from h)]
    refine congrArg l (funext fun a => ?_)
    match a with
    | 0 => rfl
    | 1 => rfl
  | false =>
    unfold beside
    rw [dif_neg (show ¬ ((widen false x) 1).val < 256 from by show ¬ (x 1).val + 256 < 256; omega)]
    refine congrArg r (funext fun a => ?_)
    match a with
    | 0 => rfl
    | 1 => exact Fin.ext (by show (x 1).val + 256 - 256 = (x 1).val; omega)

theorem sh_ne : ∀ (s : Fin 4) (c : Dev nD), s ≠ 0 → sh s c ≠ c := by decide

/-- A half tile received is a part of the result block. -/
theorem outOf_half (c : Dev nD) (s : Fin 4) (hs : s ≠ 0) (b : Bool) (i : S4096x512.Idx) (x : S1024x256.Idx)
    (h0 : (i 0).val = 1024 * (sh s c).val + (x 0).val) (h1 : (i 1).val = (if b then 0 else 256) + (x 1).val) :
    extf .f32 (tileOf X W (sh s c) c b) bitsLt_bf16_f32 x = outOf X W c i := by
  rw [outOf_of X W c (sh s c) i (widen b x) h0 (h1.trans (Nat.add_comm _ _))]
  unfold rowsOf
  rw [if_neg (sh_ne s c hs)]
  show FloatOps.extf .f32 bitsLt_bf16_f32 (tileOf X W (sh s c) c b x)
    = FloatOps.extf .f32 bitsLt_bf16_f32 (beside (tileOf X W (sh s c) c true) (tileOf X W (sh s c) c false) (widen b x))
  rw [beside_widen]
  cases b <;> rfl

theorem pieces_agree (c : Dev nD) : ∀ p ∈ [pc6 X W c, pc5 X W c, pc4 X W c, pc3 X W c, pc2 X W c, pc1 X W c],
    ∀ x : p.1.shape.Idx, p.2 x = outOf X W c (p.1.emb x) := by
  have hv0 {size : Fin 2 → ℕ} {off : Fin 2 → ℕ} (inb : ∀ a, off a + size a ≤ S4096x512.size a) {a b : ℕ} (h : off = ![a, b])
      (x : (Rect.unit (s := S4096x512) off size inb).shape.Idx) : ((Rect.unit (s := S4096x512) off size inb).emb x 0).val = a + (x 0).val := by
    subst h
    show a + 1 * (x 0).val = _
    rw [Nat.one_mul]
  have hv1 {size : Fin 2 → ℕ} {off : Fin 2 → ℕ} (inb : ∀ a, off a + size a ≤ S4096x512.size a) {a b : ℕ} (h : off = ![a, b])
      (x : (Rect.unit (s := S4096x512) off size inb).shape.Idx) : ((Rect.unit (s := S4096x512) off size inb).emb x 1).val = b + (x 1).val := by
    subst h
    show b + 1 * (x 1).val = _
    rw [Nat.one_mul]
  intro p hp
  simp only [List.mem_cons, List.not_mem_nil, or_false] at hp
  rcases hp with rfl | rfl | rfl | rfl | rfl | rfl
  · exact fun x => outOf_half X W c 1 (by decide) false _ x (hv0 (k0_off6_inb c) (off6 c) x) (hv1 (k0_off6_inb c) (off6 c) x)
  · exact fun x => outOf_half X W c 3 (by decide) true _ x (hv0 (k0_off5_inb c) (off5 c) x) (hv1 (k0_off5_inb c) (off5 c) x)
  · intro x
    rw [outOf_of X W c (sh 2 c) _ x (hv0 (k0_off4_inb c) (off4 c) x) ((hv1 (k0_off4_inb c) (off4 c) x).trans (Nat.zero_add _))]
    unfold rowsOf
    rw [if_neg (sh_ne 2 c (by decide))]
  · exact fun x => outOf_half X W c 3 (by decide) false _ x (hv0 (k0_off3_inb c) (off3 c) x) (hv1 (k0_off3_inb c) (off3 c) x)
  · exact fun x => outOf_half X W c 1 (by decide) true _ x (hv0 (k0_off2_inb c) (off2 c) x) (hv1 (k0_off2_inb c) (off2 c) x)
  · intro x
    rw [outOf_of X W c (sh 0 c) _ x (hv0 (k0_off1_inb c) (off1 c) x) ((hv1 (k0_off1_inb c) (off1 c) x).trans (Nat.zero_add _)), sh_zero]
    unfold rowsOf
    rw [if_pos rfl]

theorem pieces_cover (c : Dev nD) (i : S4096x512.Idx) : ∃ p ∈ [pc6 X W c, pc5 X W c, pc4 X W c, pc3 X W c, pc2 X W c, pc1 X W c], i ∈ p.1.set := by
  have hi0 : (i 0).val < 4096 := (i 0).isLt
  have hi1 : (i 1).val < 512 := (i 1).isLt
  have hd : (rowDev i).val = (i 0).val / 1024 := rfl
  have hm {off size : Fin 2 → ℕ} (inb : ∀ a, off a + size a ≤ S4096x512.size a) {a b : ℕ} (h : off = ![a, b])
      (h0 : a ≤ (i 0).val) (h0' : (i 0).val < a + size 0) (h1 : b ≤ (i 1).val) (h1' : (i 1).val < b + size 1) :
      i ∈ (Rect.unit (s := S4096x512) off size inb).set := by
    subst h
    refine Rect.mem_set_unit.mpr fun k => ?_
    match k with
    | 0 => exact ⟨h0, h0'⟩
    | 1 => exact ⟨h1, h1'⟩
  obtain ⟨s, hs⟩ : ∃ s : Fin 4, rowDev i = sh s c := by
    generalize rowDev i = d
    revert c d
    decide
  rw [hs] at hd
  by_cases hc : (i 1).val < 256
  · match s with
    | 0 => exact ⟨pc1 X W c, by simp, hm (k0_off1_inb c) (off1 c) (by omega) (by show _ < _ + 1024; omega) (by omega) (by show _ < _ + 512; omega)⟩
    | 1 => exact ⟨pc2 X W c, by simp, hm (k0_off2_inb c) (off2 c) (by omega) (by show _ < _ + 1024; omega) (by omega) (by show _ < _ + 256; omega)⟩
    | 2 => exact ⟨pc4 X W c, by simp, hm (k0_off4_inb c) (off4 c) (by omega) (by show _ < _ + 1024; omega) (by omega) (by show _ < _ + 512; omega)⟩
    | 3 => exact ⟨pc5 X W c, by simp, hm (k0_off5_inb c) (off5 c) (by omega) (by show _ < _ + 1024; omega) (by omega) (by show _ < _ + 256; omega)⟩
  · match s with
    | 0 => exact ⟨pc1 X W c, by simp, hm (k0_off1_inb c) (off1 c) (by omega) (by show _ < _ + 1024; omega) (by omega) (by show _ < _ + 512; omega)⟩
    | 1 => exact ⟨pc6 X W c, by simp, hm (k0_off6_inb c) (off6 c) (by omega) (by show _ < _ + 1024; omega) (by omega) (by show _ < _ + 256; omega)⟩
    | 2 => exact ⟨pc4 X W c, by simp, hm (k0_off4_inb c) (off4 c) (by omega) (by show _ < _ + 1024; omega) (by omega) (by show _ < _ + 512; omega)⟩
    | 3 => exact ⟨pc3 X W c, by simp, hm (k0_off3_inb c) (off3 c) (by omega) (by show _ < _ + 1024; omega) (by omega) (by show _ < _ + 256; omega)⟩

theorem writes_covered (g G : FVec F S4096x512 .f32) (P : List (View.Piece (Elt F) S4096x512 .f32))
    (h : ∀ p ∈ P, ∀ x : p.1.shape.Idx, p.2 x = G (p.1.emb x)) (hc : ∀ i, ∃ p ∈ P, i ∈ p.1.set) : oM.view.writes (Elt F) g P = G := by
  have hr : oM.view.read (Elt F) (oM.view.writes (Elt F) g P) = G :=
    funext fun i => View.read_writes_apply_of_pieces oM.view g G P h i (hc i)
  rw [View.read_whole (Val := Elt F) cc0_stg2_0] at hr
  exact hr

/-- The device's stores leave its result block at the product's, whatever was there. -/
theorem writes_all (c : Dev nD) (g : FVec F S4096x512 .f32) :
    oM.view.writes (Elt F) g [pc6 X W c, pc5 X W c, pc4 X W c, pc3 X W c, pc2 X W c, pc1 X W c] = outOf X W c :=
  writes_covered g (outOf X W c) _ (pieces_agree X W c) (pieces_cover X W c)

end Cert.KernelIdealPf

end
-- ==== Proof.KernelIdealPf.Deal.lean ====
/-
  What the launch hands out: the cells' invariants, the tokens of the duties and the credits of the waits, device by device.
-/
module

public import proofs.«01_k».proof.Proof.KernelIdealPf.Result
public import Idealize.ShloMosaic.Lib.Rounds.Family
public import Idealize.ShloMosaic.Lib.Pipeline.RegionTalk

@[expose] public section

set_option maxRecDepth 16384

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The cells of a device: the barrier's, and those the kernel's own scope holds -/

/-- The cells of the kernel's own semaphores. -/
abbrev Own : Type := {k : Cell // k ≠ .bar}

/-- Their semaphores. -/
def osem (k : Own) : SemLoc sig := semOf k.1

theorem split_bar (Φ : Cell → sProp (MM F)) : bigSep Finset.univ Φ = iprop(Φ .bar ∗ bigSep Finset.univ fun k : Own => Φ k.1) := by
  rw [bigSep_univ_at Φ .bar, bigSep_subtype_ne]

theorem ownSems0_osem (c : Dev nD) :
    (Pipeline.ownSems0 osem c : sProp (MM F)) = bigSep Finset.univ fun k : Own => semVal (cell c k.1) 0 := rfl

theorem zeros_split (c : Dev nD) : (zeros c : sProp (MM F)) = iprop(semVal (cell c .bar) 0 ∗ Pipeline.ownSems0 osem c) := by
  unfold zeros
  rw [split_bar, ownSems0_osem]

/-- The barrier cells of the machine. -/
def barEmb : Dev nD ↪ GSem nD τ sig := ⟨fun c => cell c .bar, fun _ _ h => congrArg (fun g : GSem nD τ sig => g.1.1) h⟩
/-- The other cells. -/
def ownEmb : Dev nD × Own ↪ GSem nD τ sig := ⟨fun p => cell p.1 p.2.1, fun p q h => by
  have e : (p.1, p.2.1) = (q.1, q.2.1) := cell_inj (p := (p.1, p.2.1)) (q := (q.1, q.2.1)) h
  exact Prod.ext (congrArg (fun x : Dev nD × Cell => x.1) e) (Subtype.ext (congrArg (fun x : Dev nD × Cell => x.2) e))⟩

abbrev barCells : Finset (GSem nD τ sig) := Finset.univ.map barEmb
abbrev ownCells : Finset (GSem nD τ sig) := Finset.univ.map ownEmb

theorem cells_disjoint : Disjoint barCells ownCells := by
  rw [Finset.disjoint_left]
  rintro g h₁ h₂
  obtain ⟨c, -, rfl⟩ := Finset.mem_map.mp h₁
  obtain ⟨p, -, h⟩ := Finset.mem_map.mp h₂
  exact p.2.2 (congrArg Prod.snd (cell_inj (p := (p.1, p.2.1)) (q := (c, .bar)) h))

theorem cell_mem (p : Dev nD × Cell) : cell p.1 p.2 ∈ barCells ∪ ownCells := by
  obtain ⟨c, k⟩ := p
  by_cases hk : k = .bar
  · subst hk
    exact Finset.mem_union_left _ (Finset.mem_map_of_mem barEmb (Finset.mem_univ c))
  · exact Finset.mem_union_right _ (Finset.mem_map_of_mem ownEmb (Finset.mem_univ (c, (⟨k, hk⟩ : Own))))

/-! ## The tokens -/

theorem tokAt_inj : Function.Injective (fun j : Fin 29 => (tokAt j).2) := by decide

/-- Every duty of every cell. -/
def tokEmb : Dev nD × Fin 29 ↪ GSem nD τ sig × ℕ × Fin 3 :=
  ⟨fun p => (cell p.1 (tokAt p.2).2.1, (tokAt p.2).2.2.1, (tokAt p.2).2.2.2), fun p q h => by
    have h1 := congrArg (fun t : GSem nD τ sig × ℕ × Fin 3 => t.1) h
    have h2 := congrArg (fun t : GSem nD τ sig × ℕ × Fin 3 => t.2) h
    have e := cell_inj (p := (p.1, (tokAt p.2).2.1)) (q := (q.1, (tokAt q.2).2.1)) h1
    exact Prod.ext (congrArg (fun x : Dev nD × Cell => x.1) e) (tokAt_inj (Prod.ext (congrArg (fun x : Dev nD × Cell => x.2) e) h2))⟩

abbrev allToks : Finset (GSem nD τ sig × ℕ × Fin 3) := Finset.univ.map tokEmb

/-- All tokens, each handed to the device that pays its duty. -/
theorem toks_deal : bigSep allToks (fun x => (dutyTok ER x.1 x.2.1 x.2.2 : sProp (MM F))) = bigSep Finset.univ fun c : Dev nD => toks c := by
  have h1 : bigSep allToks (fun x => (dutyTok ER x.1 x.2.1 x.2.2 : sProp (MM F)))
      = bigSep Finset.univ fun c : Dev nD => bigSep Finset.univ fun j : Fin 29 =>
          (dutyTok ER (cell c (tokAt j).2.1) (tokAt j).2.2.1 (tokAt j).2.2.2 : sProp (MM F)) := by
    rw [bigSep_map, bigSep_univ_prod]
    rfl
  unfold toks
  rw [h1, BI.bigSep_univ_comm (fun (c : Dev nD) (j : Fin 29) =>
    (dutyTok ER (cell (sh (tokAt j).1 c) (tokAt j).2.1) (tokAt j).2.2.1 (tokAt j).2.2.2 : sProp (MM F))),
    BI.bigSep_univ_comm (fun (c : Dev nD) (j : Fin 29) => (dutyTok ER (cell c (tokAt j).2.1) (tokAt j).2.2.1 (tokAt j).2.2.2 : sProp (MM F)))]
  exact bigSep_congr fun j _ => bigSep_univ_equiv (shE (tokAt j).1) fun c : Dev nD =>
    (dutyTok ER (cell c (tokAt j).2.1) (tokAt j).2.2.1 (tokAt j).2.2.2 : sProp (MM F))

/-! ## The credits -/

/-- What the devices owe together to cell `k` of any one device, at index `ι`. -/
def due : List (Fin 4 × Cell × Bool) → Cell → Bool → ℕ
  | [], _, _ => 0
  | x :: l, k, ι => due l k ι + if x.2.1 = k ∧ x.2.2 = ι then amountOf x.2.1 else 0

theorem sum_debts (c : Dev nD) (k : Cell) (ι : Bool) : ∀ l, ∑ d : Dev nD, debts d l (cell c k) ι = due l k ι
  | [] => Finset.sum_eq_zero fun _ _ => rfl
  | x :: l => by
    have h (d : Dev nD) : debts d (x :: l) (cell c k) ι = debts d l (cell c k) ι
        + if d = sh (inv x.1) c then (if x.2.1 = k ∧ x.2.2 = ι then amountOf x.2.1 else 0) else 0 := by
      show (debts d l + tallyAt (cell (sh x.1 d) x.2.1) x.2.2 (amountOf x.2.1)) (cell c k) ι = _
      rw [Pi.add_apply, Finsupp.add_apply, tallyAt_apply]
      refine congrArg (debts d l (cell c k) ι + ·) ?_
      by_cases hd : d = sh (inv x.1) c
      · rw [if_pos hd]
        by_cases hk : x.2.1 = k ∧ x.2.2 = ι
        · rw [if_pos hk, if_pos ⟨by rw [hd, inv_sh, hk.1], hk.2.symm⟩]
        · rw [if_neg hk, if_neg fun h => hk ⟨congrArg Prod.snd (cell_inj (p := (sh x.1 d, x.2.1)) (q := (c, k)) h.1.symm), h.2.symm⟩]
      · rw [if_neg hd, if_neg fun h => hd (by
          have e : c = sh x.1 d := congrArg Prod.fst (cell_inj (p := (c, k)) (q := (sh x.1 d, x.2.1)) h.1)
          rw [e, sh_inv])]
    rw [Finset.sum_congr rfl fun d _ => h d, Finset.sum_add_distrib, sum_debts c k ι l, Finset.sum_ite_eq' Finset.univ (sh (inv x.1) c) fun _ => _,
      if_pos (Finset.mem_univ _)]
    rfl

theorem launch_cell (c : Dev nD) (k : Cell) :
    (cred (tallyOn (cell c k) (launchCredit (Pipeline.owing fun d => debts d plan) 0 (cell c k))) : sProp (MM F))
      ⊢ bigSep Finset.univ fun ι : Bool => cred (tallyAt (cell c k) ι (due plan k ι)) := by
  have e : (launchCredit (Pipeline.owing fun d => debts d plan) 0 (cell c k) : Tally Bool)
      = Finsupp.single true (due plan k true) + Finsupp.single false (due plan k false) := by
    refine Finsupp.ext fun ι => ?_
    rw [Pipeline.launchCredit_owing, sum_debts, Finsupp.add_apply]
    cases ι <;> simp
  rw [e, tallyOn_add, bigSep_univ_eq_bigSepL [true, false] (by decide) (by decide)]
  exact (cred_add _ _).1

def credEmb : Fin 16 ↪ Cell × Bool := ⟨fun j => ((credAt j).1, (credAt j).2.1), by decide⟩

def semEmb : Cell ↪ SemLoc sig := ⟨semOf, fun _ _ h => semOf_inj h⟩

theorem credAt_due : ∀ j : Fin 16, due plan (credAt j).1 (credAt j).2.1 = (credAt j).2.2 := by
  decide +kernel

theorem creds_deal (c : Dev nD) : (Pipeline.launchCred (fun d => debts d plan) c : sProp (MM F)) ⊢ creds c := by
  have h1 : (Pipeline.launchCred (fun d => debts d plan) c : sProp (MM F))
      ⊢ bigSep Finset.univ fun k : Cell => cred (tallyOn (cell c k) (launchCredit (Pipeline.owing fun d => debts d plan) 0 (cell c k))) := by
    unfold Pipeline.launchCred
    refine (bigSep_subset (Finset.subset_univ (Finset.univ.map semEmb))).trans ?_
    rw [bigSep_map]
    exact BI.Entails.refl _
  have h2 : (bigSep Finset.univ fun p : Cell × Bool => (cred (tallyAt (cell c p.1) p.2 (due plan p.1 p.2)) : sProp (MM F))) ⊢ creds c := by
    refine (bigSep_subset (Finset.subset_univ (Finset.univ.map credEmb))).trans ?_
    rw [bigSep_map]
    unfold creds
    exact bigSep_mono fun j _ => Entails.of_eq (congrArg (fun n => (cred (tallyAt (cell c (credAt j).1) (credAt j).2.1 n) : sProp (MM F))) (credAt_due j))
  refine h1.trans ((bigSep_mono fun k _ => launch_cell c k).trans ?_)
  rw [← bigSep_univ_prod (fun p : Cell × Bool => (cred (tallyAt (cell c p.1) p.2 (due plan p.1 p.2)) : sProp (MM F)))]
  exact h2

/-! ## A device's share -/

variable (X : Dev nD → FVec F S1024x4096 .bf16) (W : Dev nD → FVec F S4096x512 .bf16)

/-- What every device may consult: the cells' invariants, and that the barrier cells are at work. -/
def records (κ : Dev nD × Cell → ℕ) : sProp (MM F) :=
  iprop(invs X W κ ∗ bigSep Finset.univ fun d : Dev nD => reached ER (cell d .bar) 0)

instance records_persistent (κ : Dev nD × Cell → ℕ) : BI.Persistent (records X W κ) := by unfold records; infer_instance

/-- What is device `c`'s alone: its place at the barrier, the right to open its other cells, the tokens of its duties. -/
def share (c : Dev nD) : sProp (MM F) :=
  iprop(atPos ER (cell c .bar) 0 ∅ 0 ∗ (bigSep Finset.univ fun k : Own => openTok ER (cell c k.1)) ∗ toks c)

/-- What a device waits with for the kernel. -/
def Tk (c : Dev nD) : sProp (MM F) := iprop((∃ κ, records X W κ ∗ share c) ∗ creds c)

/-- What a device enters the kernel with. -/
def Xk (c : Dev nD) : sProp (MM F) :=
  iprop((∃ κ, ctx X W κ ∗ ready c ∗ reached ER (cell (sh 1 c) .bar) 0 ∗ reached ER (cell (sh 2 c) .bar) 0 ∗ reached ER (cell (sh 3 c) .bar) 0
    ∗ toks c ∗ poss c (fun _ => 0)) ∗ creds c)

theorem bar_reached (d : Dev nD) : (bigSep Finset.univ fun d : Dev nD => (reached ER (cell d .bar) 0 : sProp (MM F))) ⊢ reached ER (cell d .bar) 0 :=
  bigSep_elim (Φ := fun d : Dev nD => (reached ER (cell d .bar) 0 : sProp (MM F))) (Finset.mem_univ d)

theorem enter (c : Dev nD) : iprop(Tk X W c ∗ Pipeline.ownSems0 osem c ∗ levAts L lv) ⊢ (|={Set.univ}=> Xk X W c : sProp (MM F)) := by
  rw [ownSems0_osem]
  unfold Tk Xk share records
  iintro ⟨⟨⟨%κ, ⟨#HI, #HR⟩, Hb, Ho, Ht⟩, Hc⟩, Hs, #Hl⟩
  imod (Rounds.cells_open ER (rd X W) (Finset.univ : Finset Own) (fun k => cell c k.1) (fun k => κ (c, k.1)) (fun k _ => Set.mem_univ _)) $$ [Ho Hs] with H
  · isplitl [Ho]
    · iapply (bigSep_with_persistent (R := invs X W κ) (Φ := fun k : Own => (openTok ER (cell c k.1) : sProp (MM F))) (fun k _ => by
        iintro ⟨#HI, Ho⟩
        isplitr
        · iapply (invs_get X W κ c k.1)
          iexact HI
        · iexact Ho))
      isplitr
      · iexact HI
      · iexact Ho
    · iexact Hs
  ihave H' := (Entails.of_eq (bigSep_sep' Finset.univ (fun k : Own => (atPos ER (cell c k.1) 0 ∅ 0 : sProp (MM F))) (fun k => reached ER (cell c k.1) 0))) $$ H
  icases H' with ⟨Hp, #Hr⟩
  imodintro
  isplitr [Hc]
  · iexists κ
    isplitr
    · unfold ctx
      isplitr
      · iexact HI
      · iexact Hl
    isplitr
    · unfold ready
      iapply (Entails.of_eq (split_bar (fun k => (reached ER (cell c k) 0 : sProp (MM F)))).symm)
      isplitr
      · iapply (bar_reached c)
        iexact HR
      · iexact Hr
    isplitr
    · iapply (bar_reached (sh 1 c))
      iexact HR
    isplitr
    · iapply (bar_reached (sh 2 c))
      iexact HR
    isplitr
    · iapply (bar_reached (sh 3 c))
      iexact HR
    isplitl [Ht]
    · iexact Ht
    unfold poss
    iapply (Entails.of_eq (split_bar (fun k => (atPos ER (cell c k) 0 ∅ 0 : sProp (MM F)))).symm)
    isplitl [Hb]
    · iexact Hb
    · iexact Hp
  · iexact Hc

theorem join (Φ Ψ : Dev nD → sProp (MM F)) : iprop(bigSep Finset.univ Φ ∗ bigSep Finset.univ Ψ) ⊢ bigSep Finset.univ fun c => iprop(Φ c ∗ Ψ c) :=
  Entails.of_eq (bigSep_sep' Finset.univ Φ Ψ).symm

/-- The machine's ghost state at launch, made into the devices' shares. -/
theorem fund :
    iprop((bigSep Finset.univ fun c : Dev nD => (semVal (cell c .bar) 0 : sProp (MM F))) ∗ BI.own (ER (launchOf barCells ownCells allToks)))
      ⊢ (|={Set.univ}=> ∃ κ, records X W κ ∗ bigSep Finset.univ fun c : Dev nD => share c : sProp (MM F)) := by
  have hv : (bigSep Finset.univ fun c : Dev nD => (semVal (cell c .bar) 0 : sProp (MM F))) ⊢ bigSep barCells (fun g => (semVal g 0 : sProp (MM F))) :=
    Entails.of_eq (bigSep_map (s := Finset.univ) barEmb (Φ := fun g : GSem nD τ sig => (semVal g 0 : sProp (MM F)))).symm
  have hat : bigSep barCells (fun g => (atPos ER g 0 ∅ 0 : sProp (MM F))) ⊢ bigSep Finset.univ (fun c : Dev nD => (atPos ER (cell c .bar) 0 ∅ 0 : sProp (MM F))) :=
    Entails.of_eq (bigSep_map (s := Finset.univ) barEmb (Φ := fun g : GSem nD τ sig => (atPos ER g 0 ∅ 0 : sProp (MM F))))
  have hr : bigSep barCells (fun g => (reached ER g 0 : sProp (MM F))) ⊢ bigSep Finset.univ (fun c : Dev nD => (reached ER (cell c .bar) 0 : sProp (MM F))) :=
    Entails.of_eq (bigSep_map (s := Finset.univ) barEmb (Φ := fun g : GSem nD τ sig => (reached ER g 0 : sProp (MM F))))
  have ho : bigSep ownCells (fun g => (openTok ER g : sProp (MM F)))
      ⊢ bigSep Finset.univ (fun c : Dev nD => bigSep Finset.univ fun k : Own => (openTok ER (cell c k.1) : sProp (MM F))) := by
    rw [bigSep_map, bigSep_univ_prod]
    exact BI.Entails.refl _
  have hi (κ : GSem nD τ sig → ℕ) : (bigSep (barCells ∪ ownCells) fun g => (cellInv ER (rd X W) (κ g) g : sProp (MM F)))
      ⊢ invs X W (fun p => κ (cell p.1 p.2)) := by
    unfold invs
    exact (bigSep_of_persistent Finset.univ _).trans (bigSep_mono fun p _ =>
      bigSep_elim (Φ := fun g => (cellInv ER (rd X W) (κ g) g : sProp (MM F))) (cell_mem p))
  iintro ⟨Hv, Hu⟩
  imod (Rounds.fund_launch ER (rd X W) cells_disjoint (fun g _ h => h) allToks) $$ [Hv Hu] with ⟨%κ, -, #Hi, #Hr, Ha, Ho, Ht⟩
  · isplitl [Hv]
    · iapply hv $$ Hv
    · iexact Hu
  imodintro
  iexists (fun p : Dev nD × Cell => κ (cell p.1 p.2))
  unfold records share
  isplitr
  · isplitr
    · iapply (hi κ)
      iexact Hi
    · iapply hr $$ Hr
  iapply join
  isplitl [Ha]
  · iapply hat $$ Ha
  iapply join
  isplitl [Ho]
  · iapply ho $$ Ho
  iapply (Entails.of_eq (toks_deal (F := F))) $$ Ht

end Cert.KernelIdealPf

end
-- ==== Proof.KernelIdealPf.Launch.lean ====
/-
  The launch: the kernel's body as the one point of its pipeline, the two host operations before it, and the run of the
  whole program from any memory to its final states.
-/
module

public import proofs.«01_k».proof.Proof.KernelIdealPf.Deal
public import proofs.«01_k».proof.Proof.Gen.KernelIdeal.Frame

@[expose] public section

set_option maxRecDepth 16384

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

variable (m : (ℓ : Loc nD τ sig) → Buf (Elt F) ℓ) (ρ : Dev nD → PrngReg)

/-! ## What the devices hold when the kernel starts -/

/-- Device `d`'s rows of the left operand, narrowed. -/
def X0 (d : Dev nD) : FVec F S1024x4096 .bf16 := truncf .bf16 (m ((d : Thread nD τ).loc main_arg0) : FVec F S1024x4096 .f32) bitsLt_bf16_f32
/-- Device `d`'s columns of the right operand, narrowed. -/
def W0 (d : Dev nD) : FVec F S4096x512 .bf16 := truncf .bf16 (m ((d : Thread nD τ).loc main_arg1) : FVec F S4096x512 .f32) bitsLt_bf16_f32

/-- The buffers at launch, after the host operations, and after the kernel. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) :=
  Function.update (V₁ m c) (Proc.devRef .tc main_v3) (outOf (X0 m) (W0 m) c)

theorem V₁_v1 (c : Dev nD) : V₁ m c main_v1 = X0 m c := by
  show StableHlo.after hostOps0 (V₀ m c) (Proc.devRef .tc main_v1) = _
  rw [StableHlo.after_cons, StableHlo.after_cons, StableHlo.after_nil, StableHlo.unary_result_ne (h := by decide)]
  exact StableHlo.unary_result ..

theorem V₁_v2 (c : Dev nD) : V₁ m c main_v2 = W0 m c := by
  show StableHlo.after hostOps0 (V₀ m c) (Proc.devRef .tc main_v2) = _
  rw [StableHlo.after_cons, StableHlo.after_cons, StableHlo.after_nil]
  refine (StableHlo.unary_result ..).trans ?_
  rw [StableHlo.unary_result_ne (h := by decide)]
  rfl

theorem V₁_arg0 (c : Dev nD) : V₁ m c main_arg0 = m ((c : Thread nD τ).loc main_arg0) := by
  show StableHlo.after hostOps0 (V₀ m c) (Proc.devRef .tc main_arg0) = _
  rw [StableHlo.after_cons, StableHlo.after_cons, StableHlo.after_nil, StableHlo.unary_result_ne (h := by decide), StableHlo.unary_result_ne (h := by decide)]
  rfl

theorem V₁_arg1 (c : Dev nD) : V₁ m c main_arg1 = m ((c : Thread nD τ).loc main_arg1) := by
  show StableHlo.after hostOps0 (V₀ m c) (Proc.devRef .tc main_arg1) = _
  rw [StableHlo.after_cons, StableHlo.after_cons, StableHlo.after_nil, StableHlo.unary_result_ne (h := by decide), StableHlo.unary_result_ne (h := by decide)]
  rfl

theorem V₂_v3 (c : Dev nD) : V₂ m c main_v3 = outOf (X0 m) (W0 m) c := Function.update_self ..

theorem V₂_ne (c : Dev nD) {b : DevRef τ sig} (h : b ≠ Proc.devRef .tc main_v3) : V₂ m c b = V₁ m c b := Function.update_of_ne h ..

/-! ## The proof data of the pipeline's one point -/

/-- The kernel's scratch buffers, at contents not chosen. -/
def rest (c : Dev nD) : sProp (MM F) :=
  iprop(wholeFree cc0_scratch0 c ∗ wholeFree cc0_scratch1 c ∗ wholeFree cc0_scratch2 c ∗ wholeFree cc0_scratch3 c)

/-- What the device has in hand before the kernel, -/
def before₀ (c : Dev nD) : sProp (MM F) := iprop(Xk (X0 m) (W0 m) c ∗ rest c ∗ ∃ r, prngReg c r)
/-- and after it. -/
def after₀ (c : Dev nD) : sProp (MM F) := iprop(zeros c ∗ rest c ∗ ∃ r, prngReg c r)

/-- All a device owes at launch. -/
def O₀ (c : Dev nD) : CellTallies nD τ sig Bool := debts c plan

def dat0 (c : Dev nD) : Dat τ (Elt F) Bool ℕ UU ℕ cfg0 c where
  A w := V₁ m c (Proc.devRef .tc (Pipeline.arrRef spec0 w))
  after := fun | 0 => fun _ => X0 m c | 1 => fun _ => W0 m c | 2 => fun _ => outOf (X0 m) (W0 m) c | ⟨_ + 3, h⟩ => absurd h (Nat.not_lt.2 (Nat.le_add_left _ _))
  Φ t := if t.val = 0 then before₀ m c else after₀ c
  q _ := fullShare
  owed t := if t.val = 0 then O₀ c else 0

abbrev adm : (p : Fin 1) → (pcfgs (F := F) p).Adm := fun p => (cfgs p).toPCfg_adm

def pdats : (p : Fin 1) → (c : Dev nD) → Dat τ (Elt F) Bool ℕ UU ℕ (Pipeline.pin (pcfgs (F := F)) adm p) c := fun _ => dat0 m

theorem owed_zero (c : Dev nD) : (pdats (F := F) m 0 c).owed 0 = O₀ c := by
  show (if ((0 : Fin (cfg0.N + 1)).val = 0) then O₀ c else 0) = O₀ c
  exact if_pos rfl

theorem owed_first (c : Dev nD) : (dat0 (F := F) m c).owed t0_0.castSucc = O₀ c := by
  show (if (t0_0.castSucc : Fin (cfg0.N + 1)).val = 0 then O₀ c else 0) = O₀ c
  exact if_pos rfl

theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem phi_first (c : Dev nD) : (dat0 (F := F) m c).Φ t0_0.castSucc = before₀ m c := by
  show (if (t0_0.castSucc : Fin (cfg0.N + 1)).val = 0 then before₀ m c else after₀ c) = before₀ m c
  exact if_pos rfl

theorem phi_zero (c : Dev nD) : (pdats (F := F) m 0 c).Φ 0 = before₀ m c := by
  show (if ((0 : Fin (cfg0.N + 1)).val = 0) then before₀ m c else after₀ c) = before₀ m c
  exact if_pos rfl

theorem phi_last (c : Dev nD) : (pdats (F := F) m 0 c).Φ (Fin.last _) = after₀ c := by
  show (if (Fin.last cfg0.N).val = 0 then before₀ m c else after₀ c) = after₀ c
  rw [Fin.val_last, if_neg (by rw [show cfg0.N = 1 from N_0]; decide)]

theorem phi_succ (c : Dev nD) : (dat0 (F := F) m c).Φ t0_0.succ = after₀ c := by
  show (if (t0_0.succ : Fin (cfg0.N + 1)).val = 0 then before₀ m c else after₀ c) = after₀ c
  exact if_neg (by decide)

theorem owed_succ (c : Dev nD) : (dat0 (F := F) m c).owed t0_0.succ = 0 := by
  show (if (t0_0.succ : Fin (cfg0.N + 1)).val = 0 then O₀ c else 0) = 0
  exact if_neg (by decide)

/-- A core owing `O`, as the pipeline says it, -/
theorem owesAt_of (c : Dev nD) (dat : Dat τ (Elt F) Bool ℕ UU ℕ cfg0 c) (t : Fin (cfg0.N + 1)) (O : CellTallies nD τ sig Bool)
    (h : dat.owed t = O) (hr : dat.recorded t = Set.univ) :
    (∃ Wd, owes (c : Thread nD τ) O Wd : sProp (MM F)) ⊢ dat.owesAt false t := by
  unfold Dat.owesAt Pipeline.owesWithin Dat.bound
  rw [h, hr]
  iintro ⟨%Wd, HO⟩
  iexists Wd
  isplitr
  · ipureintro
    exact fun _ _ => Or.inl trivial
  · iexact HO
/-- and back. -/
theorem of_owesAt (c : Dev nD) (dat : Dat τ (Elt F) Bool ℕ UU ℕ cfg0 c) (t : Fin (cfg0.N + 1)) (O : CellTallies nD τ sig Bool)
    (h : dat.owed t = O) : (dat.owesAt false t : sProp (MM F)) ⊢ iprop(∃ Wd, owes (c : Thread nD τ) O Wd) := by
  unfold Dat.owesAt Pipeline.owesWithin
  rw [h]
  iintro ⟨%Wd, -, HO⟩
  iexists Wd
  iexact HO

/-! ## The windows: each is its whole array -/

theorem blk0 (t : Fin cfg0.N) (f : FVec F S1024x4096 .bf16) : ((cfg0.win 0).blk t).view.read (Elt F) f = f :=
  Memref.read_access_unit_zero (Elt F) main_v1 (off := fun a => 0 * S1024x4096.size a) (by funext a; exact Nat.zero_mul _) _ f
theorem blk1 (t : Fin cfg0.N) (f : FVec F S4096x512 .bf16) : ((cfg0.win 1).blk t).view.read (Elt F) f = f :=
  Memref.read_access_unit_zero (Elt F) main_v2 (off := fun a => 0 * S4096x512.size a) (by funext a; exact Nat.zero_mul _) _ f
theorem blk2 (t : Fin cfg0.N) (f : FVec F S4096x512 .f32) : ((cfg0.win 2).blk t).view.read (Elt F) f = f :=
  Memref.read_access_unit_zero (Elt F) main_v3 (off := fun a => 0 * S4096x512.size a) (by funext a; exact Nat.zero_mul _) _ f

theorem blockOf0 (c : Dev nD) (t : Fin cfg0.N) : (dat0 m c).blockOf 0 t = X0 m c := by
  refine (blk0 t (V₁ m c main_v1)).trans (V₁_v1 m c)
theorem blockOf1 (c : Dev nD) (t : Fin cfg0.N) : (dat0 m c).blockOf 1 t = W0 m c := by
  refine (blk1 t (V₁ m c main_v2)).trans (V₁_v2 m c)

theorem before0 (c : Dev nD) (t : Fin cfg0.N) (d) : (dat0 m c).before 0 t d = X0 m c :=
  ((dat0 m c).before_in_eq_fetched 0 rfl (fun _ => rfl) (fun _ _ _ => rfl) (fun t => (blockOf0 m c t).symm) t d).trans (blockOf0 m c t)
theorem before1 (c : Dev nD) (t : Fin cfg0.N) (d) : (dat0 m c).before 1 t d = W0 m c :=
  ((dat0 m c).before_in_eq_fetched 1 rfl (fun _ => rfl) (fun _ _ _ => rfl) (fun t => (blockOf1 m c t).symm) t d).trans (blockOf1 m c t)

theorem arr0 (c : Dev nD) : (dat0 m c).arrAt 0 cfg0.N = V₂ m c main_v1 :=
  ((dat0 m c).arrAt_in 0 rfl _).trans (V₂_ne m c (b := Proc.devRef .tc main_v1) (by decide)).symm
theorem arr1 (c : Dev nD) : (dat0 m c).arrAt 1 cfg0.N = V₂ m c main_v2 :=
  ((dat0 m c).arrAt_in 1 rfl _).trans (V₂_ne m c (b := Proc.devRef .tc main_v2) (by decide)).symm

theorem flushed2 (c : Dev nD) (t : Fin cfg0.N) : (dat0 m c).flushed 2 t = ((cfg0.win 2).blk t).view.read (Elt F) (outOf (X0 m) (W0 m) c) :=
  Eq.trans (b := outOf (X0 m) (W0 m) c) rfl (blk2 t _).symm

theorem cover2 (i : S4096x512.Idx) : ∃ t : Fin cfg0.N, (cfg0.win 2).flush t = true ∧ i ∈ ((cfg0.win 2).blk t).view.set := by
  refine ⟨t0_0, flush0_2 _, ?_⟩
  show i ∈ ((View.whole main_v3).slice (win0_2.rect t0_0)).set
  rw [View.set_slice_whole]
  exact View.mem_set_unit_zero (off := fun a => 0 * S4096x512.size a) (by funext a; exact Nat.zero_mul _) _ i

theorem arr2 (c : Dev nD) : (dat0 m c).arrAt 2 cfg0.N = V₂ m c main_v3 :=
  ((dat0 m c).arrAt_eq_of_cover 2 (outOf (X0 m) (W0 m) c) (fun t _ => flushed2 m c t) cover2).trans (V₂_v3 m c).symm

/-! ## The body at the point -/

theorem owns_eq (c : Dev nD) (b : Ref sig .tc) (Y : b.ty.Contents (Elt F)) :
    (owns (Ix := Bool) (Name := ℕ) (U := UU) (Lvl := ℕ) (c : Thread nD τ) (Memref.whole b) fullShare Y : sProp (MM F)) = wholeAt b c Y :=
  owns_whole (c : Thread nD τ) b fullShare Y

/-- What the pipeline calls the body with, and what it takes back. -/
def bodyPre (c : Dev nD) : sProp (MM F) :=
  iprop((dat0 m c).Φ t0_0.castSucc ∗ (dat0 m c).owesAt false t0_0.castSucc
    ∗ (∃ d, owns (c : Thread nD τ) (Memref.whole cc0_stg0_0) fullShare ((dat0 m c).before 0 t0_0 d))
    ∗ (∃ d, owns (c : Thread nD τ) (Memref.whole cc0_stg1_0) fullShare ((dat0 m c).before 1 t0_0 d))
    ∗ (∃ d, owns (c : Thread nD τ) (Memref.whole cc0_stg2_0) fullShare ((dat0 m c).before 2 t0_0 d)))
def bodyPost (c : Dev nD) : sProp (MM F) :=
  iprop((dat0 m c).Φ t0_0.succ ∗ (dat0 m c).owesAt false t0_0.succ
    ∗ owns (c : Thread nD τ) (Memref.whole cc0_stg0_0) fullShare (X0 m c)
    ∗ owns (c : Thread nD τ) (Memref.whole cc0_stg1_0) fullShare (W0 m c)
    ∗ owns (c : Thread nD τ) (Memref.whole cc0_stg2_0) fullShare (outOf (X0 m) (W0 m) c))

/-- The body, called. -/
def bodyCall : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11

theorem result_all (c : Dev nD) (g : FVec F S4096x512 .f32) :
    (oAt c g [pc6 (X0 m) (W0 m) c, pc5 (X0 m) (W0 m) c, pc4 (X0 m) (W0 m) c, pc3 (X0 m) (W0 m) c, pc2 (X0 m) (W0 m) c, pc1 (X0 m) (W0 m) c] : sProp (MM F))
      = wholeAt cc0_stg2_0 c (outOf (X0 m) (W0 m) c) :=
  congrArg (fun f : FVec F S4096x512 .f32 => (wholeAt cc0_stg2_0 c f : sProp (MM F))) (writes_all (X0 m) (W0 m) c g)

theorem body_call (c : Dev nD) : bodyPre m c ⊢ wp frame (wpE (defs₀ (F := F)) 𝒱₀ (c : Thread nD τ) none) Set.univ (bodyCall (F := F)) (fun _ => bodyPost m c) := by
  unfold bodyPre bodyPost bodyCall
  simp only [owns_eq, before0, before1, phi_first, phi_succ]
  unfold before₀ after₀ rest Xk
  iintro ⟨⟨⟨⟨%κ, HC, Hr, H1, H2, H3, HT, HP⟩, Hc⟩, ⟨Hs0, Hs1, Hs2, Hs3⟩, Hp⟩, HO, ⟨%d0, HX⟩, ⟨%d1, HW⟩, ⟨%g, HR⟩⟩
  ihave HO := (of_owesAt c (dat0 m c) _ (O₀ c) (owed_first m c)) $$ HO
  iapply (wp_end (body_run (X0 m) (W0 m) κ c ((dat0 m c).before 2 t0_0 g))) $$ [HC Hr H1 H2 H3 HT HP Hc Hs0 Hs1 Hs2 Hs3 HO HX HW HR]
  · isplitl [HC]; · iexact HC
    isplitl [Hr]; · iexact Hr
    isplitl [H1]; · iexact H1
    isplitl [H2]; · iexact H2
    isplitl [H3]; · iexact H3
    isplitl [HO]
    · unfold debt O₀
      iexact HO
    isplitl [HT]; · iexact HT
    isplitl [Hc]; · iexact Hc
    isplitl [HP]; · iexact HP
    isplitl [HX]
    · unfold xAt wholeAt
      iexact HX
    isplitl [HW]; · iexact HW
    isplitl [HR]
    · unfold oAt wholeAt
      iexact HR
    isplitl [Hs0]; · iexact Hs0
    isplitl [Hs1]; · iexact Hs1
    isplitl [Hs2]; · iexact Hs2
    iexact Hs3
  iintro %_ ⟨HD, HZ, HX, HW, HR, Hs0, Hs1, Hs2, Hs3⟩
  imodintro
  ihave HR := (Entails.of_eq (result_all m c _)) $$ HR
  isplitl [HZ Hs0 Hs1 Hs2 Hs3 Hp]
  · isplitl [HZ]; · iexact HZ
    isplitl [Hs0 Hs1 Hs2 Hs3]
    · isplitl [Hs0]; · iexact Hs0
      isplitl [Hs1]; · iexact Hs1
      isplitl [Hs2]; · iexact Hs2
      iexact Hs3
    · iexact Hp
  isplitl [HD]
  · iapply (owesAt_of c (dat0 m c) t0_0.succ 0 (owed_succ m c) rfl)
    unfold debt debts
    iexact HD
  isplitl [HX]
  · unfold xAt wholeAt
    iexact HX
  isplitl [HW]; · iexact HW
  iexact HR

theorem bigSep_wins (Φ : Fin cfg0.W → sProp (MM F)) : bigSep Finset.univ Φ = iprop(Φ (0 : Fin 3) ∗ Φ (1 : Fin 3) ∗ Φ (2 : Fin 3)) := bigSep_W0 Φ

theorem body_ok (c : Dev nD) : BodyObligation (dat0 (F := F) m c) (defs₀ (F := F)) 𝒱₀ false Set.univ := fun t => by
  obtain rfl := fin_N0 t
  rw [bigSep_wins, bigSep_wins]
  exact body_call m c

/-! ## The segments of the program -/

/-- The buffers outside the kernel's scope. -/
def bufs : Finset (DevRef τ sig) := (StableHlo.tcRefs τ sig).filter fun b => ¬ b.isScoped

/-- Of them, those the kernel's windows show it. -/
abbrev shown : Finset (DevRef τ sig) := Pipeline.arrRefs (τ := τ) (pcfgs (F := F) 0).spec
/-- The others. -/
abbrev kept : Finset (DevRef τ sig) := bufs \ shown (F := F)

theorem shown_sub : shown (F := F) ⊆ bufs := by
  show Pipeline.arrRefs (τ := τ) spec0 ⊆ bufs
  decide

theorem bufs_held (c : Dev nD) (f : Valuation τ sig (Elt F)) :
    (unscopedBufs c (fun b => f b) : sProp (MM F)) = StableHlo.held (c : Thread nD τ) bufs f := by
  unfold unscopedBufs StableHlo.held bufs StableHlo.tcRefs
  rw [Finset.filter_map, BI.bigSep_map]
  rfl

theorem bufs_list (c : Dev nD) (f : Valuation τ sig (Elt F)) : (StableHlo.held (c : Thread nD τ) bufs f : sProp (MM F))
    = iprop(wholeAt main_arg0 c (f main_arg0) ∗ wholeAt main_arg1 c (f main_arg1) ∗ wholeAt main_v1 c (f main_v1) ∗ wholeAt main_v2 c (f main_v2) ∗ wholeAt main_v3 c (f main_v3)) := by
  unfold StableHlo.held
  rw [bigSep_eq_bigSepL_of_eq [Proc.devRef .tc main_arg0, Proc.devRef .tc main_arg1, Proc.devRef .tc main_v1, Proc.devRef .tc main_v2, Proc.devRef .tc main_v3] (by decide) (by decide)]
  rfl

theorem sems_bar (c : Dev nD) : (unscopedSems0 c : sProp (MM F)) = semVal (cell c .bar) 0 := by
  unfold unscopedSems0
  rw [show (Finset.univ.filter fun sm : SemLoc sig => ¬ sm.isScoped .tc) = {SemLoc.reg barrier0} from by decide, BI.bigSep_singleton]
  rfl

theorem held_none (c : Dev nD) (f : Valuation τ sig (Elt F)) : (StableHlo.held (c.tc : Thread nD τ) ∅ f : sProp (MM F)) = BI.emp := by
  unfold StableHlo.held
  exact BI.bigSep_empty

theorem rest_eq (c : Dev nD) :
    (Pipeline.scopedRest (Ix := Bool) (Name := ℕ) (U := UU) (Lvl := ℕ) (Val := Elt F) (Pipeline.pin (pcfgs (F := F)) adm 0).spec c : sProp (MM F)) = rest c :=
  scopedRest0_eq c

/-- What rides beside the buffers through the host operations. -/
def R (c : Dev nD) : sProp (MM F) :=
  iprop((Tk (X0 m) (W0 m) c ∗ ∃ r, prngReg c r) ∗ ∃ Wd, owes (c : Thread nD τ) (O₀ c) Wd)

/-- What the kernel's region leaves for the end. -/
def Yk (c : Dev nD) : sProp (MM F) := semVal (cell c .bar) 0

theorem ops_sub : ∀ op ∈ (hostOps0 : List (HloOp τ sig (Elt F))), op.bufs ⊆ bufs := fun op h => by
  rcases List.mem_cons.mp h with rfl | h
  · show ({Proc.devRef .tc main_arg0, Proc.devRef .tc main_v1} : Finset (DevRef τ sig)) ⊆ bufs
    decide
  · obtain rfl := List.mem_singleton.mp h
    show ({Proc.devRef .tc main_arg1, Proc.devRef .tc main_v2} : Finset (DevRef τ sig)) ⊆ bufs
    decide

def seg0 : Pipeline.HostSeg (Name := ℕ) (U := UU) (pcfgs (F := F)) defs₀ 𝒱₀ L lv :=
  Pipeline.HostSeg.ofOps _ _ _ _ _ bufs hostOps0 ops_sub (List.forall_iff_forall_mem.mp hostOps0_fresh) (V₀ m) (R m)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem plan_level : ∀ x ∈ plan, 0 < level x.2.1 x.2.2 := by decide

theorem owed_above (c : Dev nD) (t : Fin ((Pipeline.pin (pcfgs (F := F)) adm 0).N + 1)) (g : GSem nD τ sig) (i : Bool)
    (h : 0 < (pdats (F := F) m 0 c).owed t g i) : i ∈ L g ∧ 0 < lv g i := by
  have e : (pdats (F := F) m 0 c).owed t = if t.val = 0 then O₀ c else 0 := rfl
  rw [e] at h
  split at h
  · obtain ⟨x, hx, rfl, rfl⟩ := debts_pos c g i plan h
    refine ⟨?_, ?_⟩
    · unfold cell
      rw [L_tc]
      exact Finset.mem_univ _
    · rw [lv_cell]
      exact plan_level x hx
  · exact absurd h (Nat.lt_irrefl 0)

theorem stage_level (c : Dev nD) : ∀ (w : Fin 3) (s : Fin (spec0 w).nbuf), lv ((c : Thread nD τ), .dma ((spec0 w).sem s)) false ≤ 0
  | 0, _ => Nat.le_of_eq rfl
  | 1, _ => Nat.le_of_eq rfl
  | 2, _ => Nat.le_of_eq rfl
  | ⟨_ + 3, h⟩, _ => absurd h (Nat.not_lt.2 (Nat.le_add_left _ _))

theorem enter_in (c : Dev nD) :
    iprop(Pipeline.scopedRest (Pipeline.pin (pcfgs (F := F)) adm 0).spec c ∗ (∃ r, prngReg c r) ∗ StableHlo.held (c.tc : Thread nD τ) ∅ (V₁ m c) ∗ Xk (X0 m) (W0 m) c)
      ⊢ (pdats m 0 c).Φ 0 := by
  rw [phi_zero, rest_eq]
  unfold before₀
  iintro ⟨Hs, Hp, -, HX⟩
  isplitl [HX]; · iexact HX
  isplitl [Hs]; · iexact Hs
  iexact Hp

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
        ∗ Pipeline.ownSems0 osem c ∗ Yk c) := by
  rw [phi_last, rest_eq, held_none]
  unfold after₀ Yk
  rw [zeros_split]
  iintro ⟨⟨Hb, Hz⟩, Hs, Hp⟩
  isplitl [Hs]; · iexact Hs
  isplitl [Hp]; · iexact Hp
  isplitr; · iempintro
  isplitl [Hz]; · iexact Hz
  iexact Hb

theorem own_facts : Pipeline.OwnSemFacts spec0 osem := by decide

theorem arrs_final (c : Dev nD) : ∀ w : Fin 3, (dat0 (F := F) m c).arrAt w cfg0.N = V₂ m c (Proc.devRef .tc (Pipeline.arrRef spec0 w))
  | 0 => arr0 m c
  | 1 => arr1 m c
  | 2 => arr2 m c
  | ⟨_ + 3, h⟩ => absurd h (Nat.not_lt.2 (Nat.le_add_left _ _))

theorem kept_same (c : Dev nD) : ∀ b ∈ kept (F := F) \ ∅, V₂ m c b = V₁ m c b := fun b hb => by
  refine V₂_ne m c fun h => ?_
  subst h
  have hb' := (Finset.mem_sdiff.mp (Finset.mem_sdiff.mp hb).1).2
  refine hb' ?_
  show Proc.devRef .tc main_v3 ∈ Pipeline.arrRefs (τ := τ) spec0
  decide

set_option backward.isDefEq.respectTransparency.types false in
def reg0 : Pipeline.RegionSeg (pcfgs (F := F)) adm (pdats m) false defs₀ 𝒱₀ L lv 0 :=
  Pipeline.RegionSeg.ofTalk (pcfgs (F := F)) adm (pdats m) false defs₀ 𝒱₀ L lv 0 osem own_facts
    ∅ (kept (F := F)) (Finset.empty_subset _) kit rfl (fun c => (body_ok m c).loose)
    (fun _ => 0) O₀ (fun c => (owed_zero m c).trans (zero_add _).symm) (owed_last m) (fun _ => rfl) (fun _ w => by unfold Pipeline.Dat.share; split <;> rfl)
    (V₁ m) (V₂ m) (kept_same m)
    (Tk (X0 m) (W0 m)) Yk (Xk (X0 m) (W0 m)) Yk (enter (X0 m) (W0 m)) (enter_in m) (leave m)
    (fun c => by iintro H; imodintro; iexact H)
    (fun _ => 0)
    ⟨fun c w s => by rw [L_tc]; exact Finset.mem_univ _, fun c w s => stage_level c w s, fun c t g i h => owed_above m c t g i h⟩
    (fun _ => iprop(emp))
    (fun _ _ => rfl) (fun c w => arrs_final m c w)

theorem reg_pre (c : Dev nD) : iprop(StableHlo.held (c : Thread nD τ) bufs (V₁ m c) ∗ R m c) ⊢ (reg0 m).pre c := by
  show _ ⊢ iprop(StableHlo.held (c.tc : Thread nD τ) (shown (F := F)) (V₁ m c) ∗ (∃ r, prngReg c r)
    ∗ (StableHlo.held (c.tc : Thread nD τ) (kept (F := F)) (V₁ m c) ∗ emp) ∗ Tk (X0 m) (W0 m) c ∗ ∃ Wd, owes (c : Thread nD τ) (0 + O₀ c) Wd)
  rw [StableHlo.held_sub_split (c.tc : Thread nD τ) (shown_sub (F := F)) (V₁ m c), zero_add]
  unfold R
  iintro ⟨⟨Ha, Hk⟩, ⟨HT, Hp⟩, HO⟩
  isplitl [Ha]; · iexact Ha
  isplitl [Hp]; · iexact Hp
  isplitl [Hk]
  · isplitl [Hk]; · iexact Hk
    iempintro
  isplitl [HT]; · iexact HT
  iexact HO

/-- What is left of a device at the end. -/
def Tₙ (c : Dev nD) : sProp (MM F) := iprop(StableHlo.held (c : Thread nD τ) bufs (V₂ m c) ∗ semVal (cell c .bar) 0)

theorem reg_post (c : Dev nD) : (reg0 m).post c ⊢ iprop(Tₙ m c ∗ ∃ Wd, owes (c : Thread nD τ) (0 : CellTallies nD τ sig Bool) Wd) := by
  show iprop(StableHlo.held (c.tc : Thread nD τ) (shown (F := F)) (V₂ m c) ∗ (∃ r, prngReg c r)
    ∗ (StableHlo.held (c.tc : Thread nD τ) (kept (F := F)) (V₂ m c) ∗ emp) ∗ Yk c ∗ ∃ Wd, owes (c : Thread nD τ) (0 : CellTallies nD τ sig Bool) Wd) ⊢ _
  unfold Tₙ Yk
  rw [StableHlo.held_sub_split (c.tc : Thread nD τ) (shown_sub (F := F)) (V₂ m c)]
  iintro ⟨Ha, -, ⟨Hk, -⟩, Hb, HO⟩
  isplitl [Ha Hk Hb]
  · isplitl [Ha Hk]
    · isplitl [Ha]; · iexact Ha
      iexact Hk
    · iexact Hb
  · iexact HO

def segs : List (Pipeline.Seg (pcfgs (F := F)) adm (pdats m) false defs₀ 𝒱₀ L lv) := [.host (seg0 m), .region (reg0 m)]

theorem main_eq (c : Dev nD) : main (F := F) c = Pipeline.Seg.run (segs m) :=
  main_segs adm (pdats m) false 𝒱₀ L lv (seg0 m) (reg0 m) rfl c

/-! ## The launch -/

def u₀ : UU :=
  (initOf (Pipeline.cells (Pipeline.pin (pcfgs (F := F)) adm) cellOf_inj) (Pipeline.launchToks (Pipeline.pin (pcfgs (F := F)) adm) cellOf_inj),
    launchOf barCells ownCells allToks)

/-- The ghost state the cells start from, laid at device 0. -/
def G (c : Dev nD) : sProp (MM F) := if c = 0 then BI.own (ER (launchOf barCells ownCells allToks)) else iprop(emp)

theorem G_all : bigSep Finset.univ (G (F := F)) = BI.own (ER (launchOf barCells ownCells allToks)) := by
  rw [bigSep_univ_at _ (0 : Dev nD), bigSep_congr (s := Finset.univ.erase (0 : Dev nD)) (Ψ := fun _ => (BI.emp : sProp (MM F)))
    fun c hc => by unfold G; rw [if_neg (Finset.ne_of_mem_erase hc)]; rfl, BI.bigSep_emp_const]
  unfold G
  rw [if_pos rfl]
  exact BI.equiv_iff.mp sep_emp

def T₀ (c : Dev nD) : sProp (MM F) := iprop(StableHlo.held (c : Thread nD τ) bufs (V₀ m c) ∗ R m c)

/-- Of a device's launch holdings, what is not the cells'. -/
def bundle (c : Dev nD) : sProp (MM F) :=
  iprop(StableHlo.held (c : Thread nD τ) bufs (V₀ m c) ∗ creds c ∗ owes (c : Thread nD τ) (O₀ c) ∅ ∗ ∃ r, prngReg c r)

theorem T₀_of (κ : Dev nD × Cell → ℕ) (c : Dev nD) : iprop(records (X0 m) (W0 m) κ ∗ (share c ∗ bundle m c)) ⊢ T₀ m c := by
  unfold bundle T₀ R Tk
  iintro ⟨#HR, Hs, Hh, Hc, HO, Hp⟩
  isplitl [Hh]; · iexact Hh
  isplitr [HO]
  · isplitl [Hs Hc]
    · isplitl [Hs]
      · iexists κ
        isplitr
        · iexact HR
        · iexact Hs
      · iexact Hc
    · iexact Hp
  · iexists ∅
    iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp (MM F)) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (cell c .bar) 0 ∗ G c)) : sProp (MM F)) := by
    rw [show unscopedBufs c (fun b => m ((c : Thread nD τ).loc b)) = StableHlo.held (c : Thread nD τ) bufs (V₀ m c) from bufs_held c (V₀ m c), sems_bar]
    unfold bundle
    iintro ⟨Hh, Hb, HO, Hc, Hp, HG⟩
    isplitl [Hh Hc HO Hp]
    · isplitl [Hh]; · iexact Hh
      isplitl [Hc]
      · iapply (creds_deal c)
        iexact Hc
      isplitl [HO]; · iexact HO
      iexists (ρ c)
      iexact Hp
    isplitl [Hb]; · iexact Hb
    iexact HG
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (cell c .bar) 0 ∗ G c)) : sProp (MM F)) from bigSep_mono fun c _ => hcore c) $$ H
  ihave H := (Entails.of_eq (bigSep_sep' Finset.univ (bundle m) (fun c => iprop(semVal (cell c .bar) 0 ∗ G c)))) $$ H
  icases H with ⟨HB, H⟩
  ihave H := (Entails.of_eq (bigSep_sep' Finset.univ (fun c : Dev nD => (semVal (cell c .bar) 0 : sProp (MM F))) G)) $$ H
  icases H with ⟨Hv, HG⟩
  ihave HG := (Entails.of_eq (G_all (F := F))) $$ HG
  imod (fund (X0 m) (W0 m)) $$ [Hv HG] with ⟨%κ, #HR, Hs⟩
  · isplitl [Hv]
    · iexact Hv
    · iexact HG
  imodintro
  iapply (bigSep_with_persistent (R := records (X0 m) (W0 m) κ) (Φ := fun c => iprop(share c ∗ bundle m c)) fun c _ => T₀_of m κ c)
  isplitr
  · iexact HR
  iapply join
  isplitl [Hs]
  · iexact Hs
  · iexact HB

/-! ## The run -/

theorem unscoped_bar : ∀ sm : SemLoc sig, sm.isScoped .tc = false → sm = .reg barrier0 := by decide

set_option backward.isDefEq.respectTransparency.types false in
/-- From any memory with all counters at zero, every fair run of the program on the four devices ends, and at the end each device's
    arguments are as they were, its result is `outOf` of all devices' arguments, and every counter is at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = outOf (X0 m) (W0 m) c) ∧ r.2.sem = fun _ => 0) :=
  Pipeline.θ_run_regions_kit_sems (pcfgs (F := F)) adm (pdats m) false cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      iapply (Entails.of_eq (G_all (F := F)).symm)
      iexact HX)
    (T₀ := T₀ m) (Tₙ := Tₙ m)
    (hch := ⟨fun c => .rfl, fun c => reg_pre m c, fun c => reg_post m c⟩)
    (hinit := init m ρ)
    (QY := fun c s => (s.mem ((Memref.whole main_arg0).view.loc (c : Thread nD τ)) = V₂ m c main_arg0
        ∧ s.mem ((Memref.whole main_arg1).view.loc (c : Thread nD τ)) = V₂ m c main_arg1
        ∧ s.mem ((Memref.whole main_v3).view.loc (c : Thread nD τ)) = V₂ m c main_v3)
      ∧ s.sem (cell c .bar) = 0)
    (hfin := fun c s' => by
      unfold Tₙ
      rw [bufs_list]
      unfold wholeAt
      iintro ⟨⟨⟨Hx, Hy, -, -, Hz⟩, Hb⟩, HSI⟩
      icombine HSI Hx gives %hx
      icombine HSI Hy gives %hy
      icombine HSI Hz gives %hz
      icombine HSI Hb gives %hb
      imodintro
      isplitr
      · ipureintro
        exact ⟨⟨Buf.eq_of_forall_mem_univ hx, Buf.eq_of_forall_mem_univ hy, Buf.eq_of_forall_mem_univ hz⟩, by simpa using hb⟩
      iexact HSI)
    (hQ := fun s h hs => ⟨fun c => by
        obtain ⟨⟨hx, hy, hz⟩, -⟩ := h c
        exact ⟨hx.trans ((V₂_ne m c (by decide)).trans (V₁_arg0 m c)), hy.trans ((V₂_ne m c (by decide)).trans (V₁_arg1 m c)), hz.trans (V₂_v3 m c)⟩,
      sem_eq_zero hs fun c sm hsm => by
        obtain rfl := unscoped_bar sm hsm
        exact (h c).2⟩)

end Cert.KernelIdealPf

end
-- ==== Proof.KernelIdealPf.Value.lean ====
/-
  The value: over the reals each device's result is its block of columns of the product of the whole operands.
-/
module

public import proofs.«01_k».proof.Proof.KernelIdealPf.Launch
public import Idealize.ShloMosaic.Lib.MatmulPlain
public import Idealize.ShloMosaic.Lib.StackMember
public import Idealize.ShloMosaic.Lib.Layout

@[expose] public section

set_option maxRecDepth 16384

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.ShloMosaic.ValueIdx
open scoped BigOperators
open Idealize.SL.BI.BIBase Idealize.SL.BI.Laws Idealize.SL.ProofMode Idealize.SL.Sem
open Idealize.ShloMosaic.Rounds
open Idealize.ShloMosaic.Pipeline (Dat Cfg BodyObligation cellOf)

variable (X : Dev nD → FVec Ideal S1024x4096 .bf16) (W : Dev nD → FVec Ideal S4096x512 .bf16)

/-- An entry of a product, its row of 4096 against its column. -/
def dotAt {M N : ℕ} (x : (⟨2, ![M, 4096]⟩ : Shape).Idx → EReal) (w : (⟨2, ![4096, N]⟩ : Shape).Idx → EReal) (r : Fin M) (j : Fin N) : EReal :=
  ∑ k : Fin 4096, x (ix2 r k) * w (ix2 k j)

/-- A device's own tile, at full width, entry by entry. -/
theorem k0_pay1_apply (x : FVec Ideal S1024x4096 .bf16) (w : FVec Ideal S4096x512 .bf16) (r : Fin 1024) (j : Fin 512) :
    k0_pay1 (F := Ideal) x w (ix2 r j) = dotAt x w r j := by
  unfold k0_pay1
  simp only [shapeCast_self]
  refine (Ideal.matmul_plain_apply none x w (constant S1024x512 .f32 0x00000000#32) r j).trans ?_
  show Ideal.ofBits .f32 0x00000000#32 + _ = _
  rw [Ideal.ofBits_zero_f32, zero_add]
  rfl

/-- A half tile, entry by entry. -/
theorem prod_apply (x : FVec Ideal S1024x4096 .bf16) (w : FVec Ideal S4096x256 .bf16) (r : Fin 1024) (j : Fin 256) :
    prod x w (ix2 r j) = dotAt x w r j := by
  refine (show prod x w (ix2 r j) = FloatOps.matmul (DotDims.plain 1024 4096 256) none x w (constant S1024x256 .f32 0x00000000#32) (ix2 r j) from rfl).trans ?_
  refine (Ideal.matmul_plain_apply none x w (constant S1024x256 .f32 0x00000000#32) r j).trans ?_
  show Ideal.ofBits .f32 0x00000000#32 + _ = _
  rw [Ideal.ofBits_zero_f32, zero_add]
  rfl

theorem wHalf_left (e : Dev nD) (k : Fin 4096) (j : Fin 512) (h : j.val < 256) :
    wHalf W e true (ix2 k ⟨j.val, h⟩) = W e (ix2 k j) :=
  congrArg (W e) (funext fun a => Fin.ext (by
    match a with
    | ⟨0, _⟩ => exact (Nat.zero_add _).trans (Nat.one_mul _)
    | ⟨1, _⟩ => exact (Nat.zero_add _).trans (Nat.one_mul _)))

theorem wHalf_right (e : Dev nD) (k : Fin 4096) (j : Fin 512) (h : ¬ j.val < 256) :
    wHalf W e false (ix2 k ⟨j.val - 256, by have := j.isLt; omega⟩) = W e (ix2 k j) :=
  congrArg (W e) (funext fun a => Fin.ext (by
    match a with
    | ⟨0, _⟩ => exact (Nat.zero_add _).trans (Nat.one_mul _)
    | ⟨1, _⟩ =>
      show 256 + 1 * (j.val - 256) = j.val
      omega))

/-- The rows of device `d` in device `c`'s result: the product of `d`'s rows and `c`'s columns, whether computed here or received. -/
theorem rowsOf_apply (d c : Dev nD) (r : Fin 1024) (j : Fin 512) :
    rowsOf X W d c (ix2 r j) = dotAt (X d) (W c) r j := by
  unfold rowsOf
  by_cases hd : d = c
  · rw [if_pos hd, k0_pay1_apply, hd]
  · rw [if_neg hd]
    show beside (tileOf X W d c true) (tileOf X W d c false) (ix2 r j) = _
    unfold beside
    by_cases hj : j.val < 256
    · rw [dif_pos (show ((ix2 r j : S1024x512.Idx) 1).val < 256 from hj)]
      refine (congrArg (tileOf X W d c true) (?_ : _ = ix2 r ⟨j.val, hj⟩)).trans ?_
      · funext a
        match a with
        | ⟨0, _⟩ => rfl
        | ⟨1, _⟩ => rfl
      · exact (prod_apply ..).trans (Finset.sum_congr rfl fun k _ => congrArg (X d (ix2 r k) * ·) (wHalf_left W c k j hj))
    · rw [dif_neg (show ¬ ((ix2 r j : S1024x512.Idx) 1).val < 256 from hj)]
      refine (congrArg (tileOf X W d c false) (?_ : _ = ix2 r ⟨j.val - 256, by have := j.isLt; omega⟩)).trans ?_
      · funext a
        match a with
        | ⟨0, _⟩ => rfl
        | ⟨1, _⟩ => rfl
      · exact (prod_apply ..).trans (Finset.sum_congr rfl fun k _ => congrArg (X d (ix2 r k) * ·) (wHalf_right W c k j hj))

/-- Where the devices hold the blocks of rows of `A` and the blocks of columns of `B`, device `c`'s result is the block of columns of the
    product. -/
theorem outOf_block (A : FVec Ideal ⟨2, ![4096, 4096]⟩ .f32) (B : FVec Ideal ⟨2, ![4096, 2048]⟩ .f32)
    (hA : Layout.Tiles ⟨2, ![1024, 4096]⟩ ⟨2, ![4096, 4096]⟩ 0 4) (hB : Layout.Tiles ⟨2, ![4096, 512]⟩ ⟨2, ![4096, 2048]⟩ 1 4)
    (hX : ∀ d : Dev nD, (X d : S1024x4096.Idx → EReal) = Layout.block ⟨2, ![1024, 4096]⟩ ⟨2, ![4096, 4096]⟩ 0 4 d A hA)
    (hW : ∀ d : Dev nD, (W d : S4096x512.Idx → EReal) = Layout.block ⟨2, ![4096, 512]⟩ ⟨2, ![4096, 2048]⟩ 1 4 d B hB) (c : Dev nD) :
    outOf X W c = Layout.block ⟨2, ![4096, 512]⟩ ⟨2, ![4096, 2048]⟩ 1 4 c (Host.dotGeneral (DotDims.plain 4096 4096 2048) none A B) hB := by
  funext i
  have hi : (i 0).val < 4096 := (i 0).isLt
  have hj : (i 1).val < 512 := (i 1).isLt
  have hc : c.val < 4 := c.isLt
  have e1 : inRow i = ix2 ⟨(i 0).val % 1024, Nat.mod_lt _ (by decide)⟩ ⟨(i 1).val, hj⟩ := funext fun a => by
    match a with
    | ⟨0, _⟩ => rfl
    | ⟨1, _⟩ => rfl
  have e2 : hB.idx c i = ix2 ⟨(i 0).val, hi⟩ ⟨c.val * 512 + (i 1).val, by omega⟩ := funext fun a => by
    match a with
    | ⟨0, _⟩ => rfl
    | ⟨1, _⟩ => rfl
  rw [Layout.block_apply, e2, StackMember.dotGeneral_plain_apply]
  unfold outOf
  rw [e1, rowsOf_apply]
  unfold dotAt
  refine Finset.sum_congr rfl fun k _ => ?_
  rw [congrFun (hX (rowDev i)), congrFun (hW c), Layout.block_apply, Layout.block_apply]
  refine congrArg₂ (fun a b => A a * B b) (funext fun a => Fin.ext ?_) (funext fun a => Fin.ext ?_)
  · match a with
    | ⟨0, _⟩ =>
      show (i 0).val / 1024 * 1024 + (i 0).val % 1024 = (i 0).val
      omega
    | ⟨1, _⟩ => rfl
  · match a with
    | ⟨0, _⟩ => rfl
    | ⟨1, _⟩ => rfl

end Cert.KernelIdealPf

end
-- ==== Proof.lean ====
/- The proof of the certificate's claims: both programs run to the end with their arguments unchanged and every counter back at zero;
   over the reals each device's result is its block of columns of the reference's product. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelPf.Launch
public import proofs.«01_k».proof.Proof.KernelIdealPf.Value

@[expose] public section

noncomputable section

namespace Cert.Proof

open Idealize.ShloMosaic Idealize.SL.Sem

/-- The kernel on its machine values: arguments unchanged, every counter back at zero. -/
theorem frame_kernel : Cert.quiescent_Kernel := fun m g _ =>
  (θ_run Cert.Kernel.defs _ _).mono (fun _ h => ⟨fun c => ⟨(h.1 c).1, (h.1 c).2.1⟩, h.2⟩) (Cert.KernelPf.run_main (F := Bits) m g)

/-- The kernel over the reals: the same. -/
theorem frame_kernelIdeal : Cert.quiescent_KernelIdeal := fun m g _ =>
  (θ_run Cert.KernelIdeal.defs _ _).mono (fun _ h => ⟨fun c => ⟨(h.1 c).1, (h.1 c).2.1⟩, h.2⟩) (Cert.KernelIdealPf.run_main (F := Ideal) m g)

/-- The reference: one product on one device, and no counter at all. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From blocks of rows and blocks of columns of the whole operands, every device ends with its block of columns of their product. -/
theorem value : Cert.algebraic_KernelIdeal_ReferenceIdeal := by
  intro m g m' g' _ hagree
  refine ⟨_, ?_, (θ_run Cert.ReferenceIdeal.defs _ _).mono (fun _ h => h 0) (Cert.ReferenceIdeal.Value.run (F := Ideal) m' g')⟩
  refine (θ_run Cert.KernelIdeal.defs _ _).mono (fun _ h c => ⟨(h.1 c).2.2.trans ?_, (h.1 c).1, (h.1 c).2.1⟩)
    (Cert.KernelIdealPf.run_main (F := Ideal) m g)
  exact Cert.KernelIdealPf.outOf_block (Cert.KernelIdealPf.X0 m) (Cert.KernelIdealPf.W0 m) _ _ _ _
    (fun d => (hagree d).1) (fun d => (hagree d).2) c

/-- The claims together. -/
theorem claim : Cert.Claim := ⟨Cert.Kernel.Gen.facts, Cert.KernelIdeal.Gen.facts, Cert.ReferenceIdeal.Gen.facts,
  frame_kernel, frame_kernelIdeal, frame_reference, trivial, value⟩

end Cert.Proof

end
